-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_told_apart [hKernelIdeal : Cert.KernelIdeal.Facts] [hReferenceIdeal : Cert.ReferenceIdeal.Facts] [hOn_told_apart : Cert.On_told_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_told_apart.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_told_apart.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_told_apart : Cert.On_told_apart.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_told_apart (hKernelIdeal := hKernelIdeal) (hReferenceIdeal := hReferenceIdeal) (hOn_told_apart := hOn_told_apart)
-- ==== On_told_apart.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x1 : Shape := ⟨2, ![1024, 1]⟩
abbrev S1024x31 : Shape := ⟨2, ![1024, 31]⟩
abbrev S32 : Shape := ⟨1, ![32]⟩
abbrev S1x1x32 : Shape := ⟨3, ![1, 1, 32]⟩
abbrev S1x32x1 : Shape := ⟨3, ![1, 32, 1]⟩
abbrev S1x32x32 : Shape := ⟨3, ![1, 32, 32]⟩
abbrev S1024x1x32 : Shape := ⟨3, ![1024, 1, 32]⟩
abbrev S1024x32x32 : Shape := ⟨3, ![1024, 32, 32]⟩

class Facts : Prop where
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  bcast_S_S1024x1 : S_.BroadcastsInDim S1024x1 (![] : Fin 0 → Fin S1024x1.rank)
  slices_S1024x32_S1024x31_0_0 : S1024x32.Slices ![0, 0] S1024x31
  concatenates_S1024x1_S1024x31_S1024x32_d1 : Shape.Concatenates [S1024x1, S1024x31] S1024x32 1
  bcast_S32_S1x1x32_2 : S32.BroadcastsInDim S1x1x32 (![2] : Fin 1 → Fin S1x1x32.rank)
  bcast_S32_S1x32x1_1 : S32.BroadcastsInDim S1x32x1 (![1] : Fin 1 → Fin S1x32x1.rank)
  bcast_S1x1x32_S1x32x32_0_1_2 : S1x1x32.BroadcastsInDim S1x32x32 (![0, 1, 2] : Fin 3 → Fin S1x32x32.rank)
  bcast_S1x32x1_S1x32x32_0_1_2 : S1x32x1.BroadcastsInDim S1x32x32 (![0, 1, 2] : Fin 3 → Fin S1x32x32.rank)
  bcast_S1024x32_S1024x1x32_0_2 : S1024x32.BroadcastsInDim S1024x1x32 (![0, 2] : Fin 2 → Fin S1024x1x32.rank)
  bcast_S1024x1x32_S1024x32x32_0_1_2 : S1024x1x32.BroadcastsInDim S1024x32x32 (![0, 1, 2] : Fin 3 → Fin S1024x32x32.rank)
  bcast_S1x32x32_S1024x32x32_0_1_2 : S1x32x32.BroadcastsInDim S1024x32x32 (![0, 1, 2] : Fin 3 → Fin S1024x32x32.rank)
  reducesTo_S1024x32x32_S1024x32_d2 : S1024x32x32.ReducesTo [2] S1024x32
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn_part1 {F : FTy → Type} [FloatOps F] (main_v18 : IVec S1024x32 1) (main_v20 : IVec S1024x32 1) : IVec S1024x32 1 :=
  let main_v21 : IVec S1024x32 1 := ori main_v18 main_v20
  main_v21

def fn {F : FTy → Type} [FloatOps F] (main_arg0 : FVec F S1024x16384 .f32) : IVec S1024x32 1 :=
  let main_v0 : FVec F S1024x16384 .f32 := Host.negf main_arg0
  let main_v1 : IVec S1024x16384 32 := fn_argsort (F := F) main_v0
  let main_v2 : IVec S1024x32 32 := (extractStridedSlice S1024x32 ![0, 0] · slices_S1024x16384_S1024x32_0_0) main_v1
  let main_v3 : FVec F S1024x32 .f32 := fn_take_along_axis (F := F) main_arg0 main_v2
  let main_cst : FVec F S_ .f32 := constant S_ .f32 0x7F800000#32
  let main_v4 : FVec F S1024x1 .f32 := broadcastInDim S1024x1 ![] bcast_S_S1024x1 main_cst
  let main_v5 : FVec F S1024x31 .f32 := (extractStridedSlice S1024x31 ![0, 0] · slices_S1024x32_S1024x31_0_0) main_v3
  let main_v6 : FVec F S1024x32 .f32 := (fun a b => concatenate S1024x32 1 [⟨S1024x1, a⟩, ⟨S1024x31, b⟩] concatenates_S1024x1_S1024x31_S1024x32_d1) main_v4 main_v5
  let main_v7 : IVec S1024x32 1 := cmpf .olt main_v3 main_v6
  let main_v8 : IVec S32 32 := iotaInDim S32 32 0
  let main_v9 : IVec S1x1x32 32 := broadcastInDim S1x1x32 ![2] bcast_S32_S1x1x32_2 main_v8
  let main_v10 : IVec S1x32x1 32 := broadcastInDim S1x32x1 ![1] bcast_S32_S1x32x1_1 main_v8
  let main_v11 : IVec S1x32x32 32 := broadcastInDim S1x32x32 ![0, 1, 2] bcast_S1x1x32_S1x32x32_0_1_2 main_v9
  let main_v12 : IVec S1x32x32 32 := broadcastInDim S1x32x32 ![0, 1, 2] bcast_S1x32x1_S1x32x32_0_1_2 main_v10
  let main_v13 : IVec S1x32x32 1 := cmpi .sgt main_v11 main_v12
  let main_v14 : IVec S1024x1x32 1 := broadcastInDim S1024x1x32 ![0, 2] bcast_S1024x32_S1024x1x32_0_2 main_v7
  let main_v15 : IVec S1024x32x32 1 := broadcastInDim S1024x32x32 ![0, 1, 2] bcast_S1024x1x32_S1024x32x32_0_1_2 main_v14
  let main_v16 : IVec S1024x32x32 1 := broadcastInDim S1024x32x32 ![0, 1, 2] bcast_S1x32x32_S1024x32x32_0_1_2 main_v13
  let main_v17 : IVec S1024x32x32 1 := ori main_v15 main_v16
  let main_c : IVec S_ 1 := constantI S_ 1 1#1
  let main_v18 : IVec S1024x32 1 := (fun x v => Host.reduce IntOp.andi x v reducesTo_S1024x32x32_S1024x32_d2 h_S_) main_v17 main_c
  let main_cst_0 : FVec F S_ .f32 := constant S_ .f32 0xFF800000#32
  let main_v19 : FVec F S1024x32 .f32 := broadcastInDim S1024x32 ![] bcast_S_S1024x32 main_cst_0
  let main_v20 : IVec S1024x32 1 := cmpf .oeq main_v3 main_v19
  fn_part1 (F := F) main_v18 main_v20
-- ==== Kernel.lean ====
abbrev S1024x8192 : Shape := ⟨2, ![1024, 8192]⟩
abbrev S1024x32 : Shape := ⟨2, ![1024, 32]⟩
abbrev S_ : Shape := ⟨0, ![]⟩
abbrev S1024x1 : Shape := ⟨2, ![1024, 1]⟩
abbrev S1024 : Shape := ⟨1, ![1024]⟩
abbrev S1024x64 : Shape := ⟨2, ![1024, 64]⟩

abbrev nBuf : Space → Nat
  | .hbm => 2
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x8192, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v210 : BitVec 32 := Scalar.muli v9 c16_i32_71
  let v211 : BitVec 32 := Scalar.addi c0_i32 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v212 : BitVec 32 := Scalar.muli v5 c4_i32_72
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v214 : BitVec 32 := Scalar.muli v8 c1_i32_73
  let v215 : BitVec 32 := Scalar.addi v213 v214
  v215.toNat
def k0_dev2 (d0 : Dev nD) : Nat :=
  let c0_i32_76 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_75 : BitVec 32 := 16#32
  let v216 : BitVec 32 := Scalar.muli v9 c16_i32_75
  let v217 : BitVec 32 := Scalar.addi c0_i32_76 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v218 : BitVec 32 := Scalar.muli v5 c4_i32_77
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v220 : BitVec 32 := Scalar.muli v8 c1_i32_78
  let v221 : BitVec 32 := Scalar.addi v219 v220
  v221.toNat
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Column.lean ====
/- The kernel's selection, written as the recursion its printed text unrolls: from one column of bounds to the next
   (`lower`: per row, the largest entry strictly below the row's bound), 32 columns from +inf on (`column`), side by side
   (`select32`). The printed body is stated over these two selections, its ten windows joined into one sequence. Over any
   float values. -/
module

public import proofs.«01_k».proof.Proof.Gen.KernelIdeal
public import proofs.«01_k».proof.Proof.Gen.KernelIdeal.Skeleton

@[expose] public section

noncomputable section

namespace Cert.TopK

open Cert.KernelIdeal Cert.KernelIdeal.Gen
open Idealize.ShloMosaic Idealize.SL.Sem

variable {F : FTy → Type} [FloatOps F]

/-! ## The selection -/

section Selection

variable {n : Nat} (hb : S1024x1.Broadcasts ⟨2, ![1024, n]⟩) (hr : (⟨2, ![1024, n]⟩ : Shape).Reduces [1] S1024)

/-- Per row: the largest entry strictly below the row's bound `t`, or -inf. -/
def lower (x : FVec F ⟨2, ![1024, n]⟩ .f32) (t : FVec F S1024x1 .f32) : FVec F S1024x1 .f32 :=
  shapeCast S1024x1
    (multiReduction .maximumf [1] S1024
      (select (cmpf .olt x (broadcastTo ⟨2, ![1024, n]⟩ t hb)) x (broadcast ⟨2, ![1024, n]⟩ (Scalar.ofBits .f32 0xFF800000#32)))
      0xFF800000#32 hr (.inl rfl) rfl)
    shapeCasts_S1024_S1024x1

/-- Column `k` of the selection. -/
def column (x : FVec F ⟨2, ![1024, n]⟩ .f32) : Nat → FVec F S1024x1 .f32
  | 0 => lower hb hr x (broadcast S1024x1 (Scalar.ofBits .f32 0x7F800000#32))
  | k + 1 => lower hb hr x (column x k)

/-- The 32 columns side by side. -/
def select32 (x : FVec F ⟨2, ![1024, n]⟩ .f32) : FVec F S1024x32 .f32 :=
  concatenate S1024x32 1 ((List.range 32).map fun k => (⟨S1024x1, column hb hr x k⟩ : (s : Shape) × (s.Idx → F .f32)))
    concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x32_d1

end Selection

/-- The 32 values a device selects from its block. -/
def own32 (x : FVec F S1024x8192 .f32) : FVec F S1024x32 .f32 :=
  select32 broadcasts_S1024x1_S1024x8192 reduces_S1024x8192_S1024 (shapeCast S1024x8192 x shapeCasts_S1024x8192_S1024x8192)

/-- What it leaves, from its own 32 values and its partner's. -/
def both32 (a b : FVec F S1024x32 .f32) : FVec F S1024x32 .f32 :=
  select32 broadcasts_S1024x1_S1024x64 reduces_S1024x64_S1024
    (concatenate S1024x64 1 [⟨S1024x32, a⟩, ⟨S1024x32, b⟩] concatenates_S1024x32_S1024x32_S1024x64_d1)

/-! ## The body in one sequence -/

/-- The body's memory operations, in order, over the two selections. -/
def sequence (arg0 : Memref sig .tc .vmem S1024x8192 .f32) (arg1 arg2 arg3 : Memref sig .tc .vmem S1024x32 .f32)
    (harg2 : arg2.IsWhole) (harg3 : arg3.IsWhole) (arg4 arg5 : DmaSems sig S_) :
    Prog (TpuEff nD τ sig (Elt F) Λ₀ .tc) PUnit :=
  .op .deviceId fun d0 =>
  .op (.load arg0 (Rect.unit (s := S1024x8192) ![0, 0] S1024x8192.size inb_S1024x8192_S1024x8192_0_0).toLoadRect (View.loadsAt_vmem h_S1024x8192)) fun (v10 : Vec F S1024x8192 .f32) =>
  .op (.load arg2 (Rect.unit (s := S1024x32) ![0, 0] S1024x32.size inb_S1024x32_S1024x32_0_0).toLoadRect (View.loadsAt_vmem h_S1024x32)) fun _ =>
  .op (.store arg2 (Rect.unit (s := S1024x32) ![0, 0] S1024x32.size inb_S1024x32_S1024x32_0_0)
    (shapeCast S1024x32 (own32 v10) shapeCasts_S1024x32_S1024x32) Finset.univ (View.stores_vmem_bits_univ h_S1024x32 rfl) (.inl rfl)) fun _ =>
  Prog.bind (semSignalWord (⟨k0_dev1 d0, k0_dev1_lt d0⟩ : Dev nD) (SemArray.scalar (sig.barrier 0 rfl) : Sems sig S_).sem 1#32) fun _ =>
  Prog.bind (semWaitWord (SemArray.scalar (sig.barrier 0 rfl) : Sems sig S_).sem 1#32) fun _ =>
  .op (.enqueueDma arg2 (.remote (Dev.tc (⟨k0_dev2 d0, k0_dev2_lt d0⟩ : Dev nD)) arg3 (.dma arg4.sem)) (.dma arg5.sem) harg2.wordExact harg3.wordExact ⟨⟨rfl, Or.inl rfl⟩, trivial⟩) fun _ =>
  .op (.waitDma2 arg4.sem arg3 arg2 harg3.wordExact harg2.wordExact) fun _ =>
  .op (.waitDma2 arg5.sem arg2 arg3 harg2.wordExact harg3.wordExact) fun _ =>
  .op (.load arg3 (Rect.unit (s := S1024x32) ![0, 0] S1024x32.size inb_S1024x32_S1024x32_0_0).toLoadRect (View.loadsAt_vmem h_S1024x32)) fun (v228 : Vec F S1024x32 .f32) =>
  .op (.load arg1 (Rect.unit (s := S1024x32) ![0, 0] S1024x32.size inb_S1024x32_S1024x32_0_0).toLoadRect (View.loadsAt_vmem h_S1024x32)) fun _ =>
  .op (.store arg1 (Rect.unit (s := S1024x32) ![0, 0] S1024x32.size inb_S1024x32_S1024x32_0_0) (both32 (own32 v10) v228) Finset.univ
    (View.stores_vmem_bits_univ h_S1024x32 rfl) (.inl rfl)) fun _ =>
  .ret ⟨⟩

set_option maxRecDepth 65536 in
/-- The printed body is that sequence. -/
theorem body_eq_sequence (arg0 : Memref sig .tc .vmem S1024x8192 .f32) (harg0 : arg0.IsWhole) (arg1 : Memref sig .tc .vmem S1024x32 .f32) (harg1 : arg1.IsWhole)
    (arg2 : Memref sig .tc .vmem S1024x32 .f32) (harg2 : arg2.IsWhole) (arg3 : Memref sig .tc .vmem S1024x32 .f32) (harg3 : arg3.IsWhole) (arg4 arg5 : DmaSems sig S_) :
    cc0_body (F := F) arg0 harg0 arg1 harg1 arg2 harg2 arg3 harg3 arg4 arg5 = sequence arg0 arg1 arg2 arg3 harg2 harg3 arg4 arg5 := by
  rw [cc0_body_eq_skeleton]; unfold cc0_body_skel
  rw [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret]
  unfold sequence
  simp only [semSignalWord, semWaitWord, Prog.lift, Prog.bind_op, Prog.bind_ret, Prog.pure_eq_ret]
  rfl

end Cert.TopK

end
-- ==== Proof.Protocol.lean ====
/- The exchange of the selected values between a device and its partner: the one whose first mesh coordinate is the
   other. Each device has three semaphores the exchange counts on, indexed 0, 1, 2 here: the barrier semaphore (the
   partner's signal: its receive buffer may be written), the send semaphore (the device's own copy has read its send
   buffer) and the receive semaphore (the partner's copy has landed). Each is credited once, by one payer. -/
module

public import proofs.«01_k».proof.Proof.Column
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The staging's resources beside the exchange's. -/
abbrev Res : Type := UR sig nD τ × UR sig nD τ

local notation "𝕄" => MT nD τ sig Unit (Elt F) ℕ Res ℕ

abbrev staging : Emb (UR sig nD τ) (MT nD τ sig Unit (Elt F) ℕ Res ℕ) := embL
abbrev exch : Emb (UR sig nD τ) (MT nD τ sig Unit (Elt F) ℕ Res ℕ) := embR

variable (m : (ℓ : Loc nD τ sig) → Buf (Elt F) ℓ) (ρ : Dev nD → PrngReg)

/-! ## Partners -/

set_option backward.proofsInPublic true in
/-- The device across the first mesh axis (16 devices to a coordinate). -/
def mate (c : Dev nD) : Dev nD := ⟨(c.val + 16) % 32, Nat.mod_lt _ (by decide)⟩

theorem mate_mate (c : Dev nD) : mate (mate c) = c := by revert c; decide

/-- The device the signal names, and the one the copy names. -/
theorem dev1_mate (c : Dev nD) : (⟨k0_dev1 c, k0_dev1_lt c⟩ : Dev nD) = mate c :=
  Fin.ext ((k0_dev1_eq c).trans (by revert c; decide))
theorem dev2_mate (c : Dev nD) : (⟨k0_dev2 c, k0_dev2_lt c⟩ : Dev nD) = mate c :=
  Fin.ext ((k0_dev2_eq c).trans (by revert c; decide))

/-! ## Buffers and semaphores -/

abbrev blockM : Memref sig .tc .vmem S1024x8192 .f32 := Memref.whole cc0_stg0_0
abbrev outM : Memref sig .tc .vmem S1024x32 .f32 := Memref.whole cc0_stg1_0
abbrev sendM : Memref sig .tc .vmem S1024x32 .f32 := Memref.whole cc0_scratch0
abbrev recvM : Memref sig .tc .vmem S1024x32 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

/-- The exchange's semaphores by index. -/
abbrev semOf : Fin 3 → SemLoc sig := fun | 0 => .reg barS | 1 => .dma sendS.sem | 2 => .dma recvS.sem
abbrev cell (c : Dev nD) (k : Fin 3) : GSem nD τ sig := ((c : Thread nD τ), semOf k)

/-- Which of the three a semaphore is, if any. -/
def slot (s : SemLoc sig) : Option (Fin 3) :=
  if s = .reg barS then some 0 else if s = .dma sendS.sem then some 1 else if s = .dma recvS.sem then some 2 else none

theorem slot_semOf (k : Fin 3) : slot (semOf k) = some k := by revert k; decide

theorem semOf_injective : Function.Injective semOf := fun a b h => by
  have := congrArg slot h; rw [slot_semOf, slot_semOf] at this; exact Option.some.inj this

theorem cell_inj {a b : Dev nD} {k l : Fin 3} : cell a k = cell b l ↔ a = b ∧ k = l :=
  ⟨fun h => ⟨Fin.ext (congrArg (fun g : GSem nD τ sig => g.1.1.val) h), semOf_injective (congrArg Prod.snd h)⟩,
    fun h => by rw [h.1, h.2]⟩

/-- The credit a copy of the 32 columns gives. -/
abbrev N : ℕ := recvM.view.dmaCredit
theorem N_pos : 0 < N := View.dmaCredit_pos _ (by decide)

/-- What a round of semaphore `k` expects. -/
def units (k : Fin 3) : ℕ := if k = 0 then 1 else N
theorem units_pos (k : Fin 3) : 0 < units k := by
  unfold units; split
  · exact Nat.one_pos
  · exact N_pos

/-! ## Contents -/

/-- The memory at the start: any contents, counters zero. -/
def start₀ : MemSt nD τ sig (Elt F) := ⟨m, fun _ => 0, ρ⟩

/-- Device `c`'s block, as staged. -/
def blockAt (c : Dev nD) : (cc0_stg0_0 : Ref sig .tc).ty.Contents (Elt F) :=
  (win0_0.blk (0 : Fin 1)).view.read (Elt F) ((start₀ m ρ).mem ((c : Thread nD τ).loc main_arg0))

/-- What device `c` sends: its own 32 values. -/
def sentAt (c : Dev nD) : (cc0_scratch0 : Ref sig .tc).ty.Contents (Elt F) :=
  shapeCast S1024x32 (own32 (blockAt m ρ c)) shapeCasts_S1024x32_S1024x32

/-- What device `c` leaves: the selection from its own 32 values and those received. -/
def outAt (c : Dev nD) : (cc0_stg1_0 : Ref sig .tc).ty.Contents (Elt F) := both32 (own32 (blockAt m ρ c)) (sentAt m ρ (mate c))

/-- Ownership of device `c`'s send buffer, and of its receive buffer, at given contents. -/
def sendPts (c : Dev nD) (f : Buf (Elt F) (sendM.view.loc (c : Thread nD τ))) : sProp 𝕄 :=
  sendM.view.loc (c : Thread nD τ) ↦[sendM.view.set]{fullShare} f
def recvPts (c : Dev nD) (f : Buf (Elt F) (recvM.view.loc (c : Thread nD τ))) : sProp 𝕄 :=
  recvM.view.loc (c : Thread nD τ) ↦[recvM.view.set]{fullShare} f

omit [FloatOps F] in
theorem sendPts_eq (c : Dev nD) (f : Buf (Elt F) ((c : Thread nD τ).loc cc0_scratch0)) :
    sendPts c f = (((c : Thread nD τ).loc cc0_scratch0) ↦{fullShare} f : sProp 𝕄) := by unfold sendPts; rw [View.set_whole]
omit [FloatOps F] in
theorem recvPts_eq (c : Dev nD) (f : Buf (Elt F) ((c : Thread nD τ).loc cc0_scratch1)) :
    recvPts c f = (((c : Thread nD τ).loc cc0_scratch1) ↦{fullShare} f : sProp 𝕄) := by unfold recvPts; rw [View.set_whole]

omit [FloatOps F] in
instance sendPts_storable (c : Dev nD) (f) : BI.Storable (upEmb : UEmb _ 𝕄) (sendPts (F := F) c f) := by unfold sendPts; infer_instance
omit [FloatOps F] in
instance recvPts_storable (c : Dev nD) (f) : BI.Storable (upEmb : UEmb _ 𝕄) (recvPts (F := F) c f) := by unfold recvPts; infer_instance

omit [FloatOps F] in
/-- A copy of a whole send buffer leaves its contents in the whole receive buffer. -/
theorem copied (c : Dev nD) (old : Buf (Elt F) (recvM.view.loc (c : Thread nD τ))) (f : (cc0_scratch0 : Ref sig .tc).ty.Contents (Elt F)) :
    recvM.view.write (Elt F) old (sendM.view.read (Elt F) f) Finset.univ = f := by
  show (View.whole cc0_scratch1).write (Elt F) old ((View.whole cc0_scratch0).read (Elt F) f) Finset.univ = f
  rw [View.read_whole]
  exact View.write_whole_univ _ _ _

/-! ## The schedule: one round, one duty, for each of the three semaphores of each device -/

/-- What the one credit of device `c`'s semaphore `k` brings: the partner's receive buffer; its own send buffer back; its
    receive buffer filled with the partner's values. -/
def brings (c : Dev nD) : Fin 3 → sProp 𝕄
  | 0 => iprop(∃ f, recvPts (mate c) f)
  | 1 => sendPts c (sentAt m ρ c)
  | 2 => recvPts c (sentAt m ρ (mate c))

instance brings_storable (c : Dev nD) (k : Fin 3) : BI.Storable (upEmb : UEmb _ 𝕄) (brings (F := F) m ρ c k) := by
  fin_cases k <;> (unfold brings; infer_instance)

def plan : Rounds.Schedule (GSem nD τ sig) Unit 𝕄 where
  duties g r := if r = 0 ∧ g.1.2 = .tc ∧ (slot g.2).isSome then {()} else ∅
  unitless _ := False
  amount g _ _ := (slot g.2).elim 1 units
  payload g _ _ := (slot g.2).elim iprop(emp) (brings m ρ g.1.1)
  amount_pos g _ _ _ := by
    cases slot g.2 with
    | none => exact Nat.one_pos
    | some k => exact units_pos k

instance plan_storable (g : GSem nD τ sig) (r : ℕ) (d : Unit) : BI.Storable (upEmb : UEmb _ 𝕄) ((plan (F := F) m ρ).payload g r d) := by
  show BI.Storable upEmb ((slot g.2).elim iprop(emp) (brings m ρ g.1.1))
  cases slot g.2 with
  | none => show BI.Storable upEmb iprop(emp); infer_instance
  | some k => exact brings_storable m ρ g.1.1 k

section Plan
variable (c : Dev nD) (k : Fin 3)

theorem plan_duties : (plan (F := F) m ρ).duties (cell c k) 0 = {()} := by
  dsimp only [plan]; rw [slot_semOf]; exact if_pos ⟨rfl, rfl, rfl⟩
theorem plan_mem : () ∈ (plan (F := F) m ρ).duties (cell c k) 0 := by rw [plan_duties]; exact Finset.mem_singleton_self _
theorem plan_over : ∀ r, 1 ≤ r → (plan (F := F) m ρ).duties (cell c k) r = ∅ := fun r hr => by
  dsimp only [plan]; exact if_neg fun h => by omega
theorem plan_amount (d : Unit) : (plan (F := F) m ρ).amount (cell c k) 0 d = units k := by dsimp only [plan]; rw [slot_semOf]; rfl
theorem plan_payload (d : Unit) : (plan (F := F) m ρ).payload (cell c k) 0 d = brings m ρ c k := by dsimp only [plan]; rw [slot_semOf]; rfl
theorem plan_expect : (plan (F := F) m ρ).expect (cell c k) 0 = units k := by
  unfold Schedule.expect Schedule.amountOf; rw [plan_duties, Finset.sum_singleton, plan_amount]
/-- The whole round of a semaphore brings that. -/
theorem plan_rest : bigSep ((plan (F := F) m ρ).duties (cell c k) 0 \ ∅) (fun d => (plan (F := F) m ρ).payload (cell c k) 0 d) = brings m ρ c k := by
  rw [Finset.sdiff_empty, plan_duties, bigSep_singleton, plan_payload]

end Plan

/-! ## What a device owes, and the order of waiting -/

/-- To its partner: the credit of its copy, and before that its signal. -/
def owesCopy (c : Dev nD) : CellTallies nD τ sig Unit := tallyAt (cell (mate c) 2) () N
def owes₀ (c : Dev nD) : CellTallies nD τ sig Unit := owesCopy c + tallyAt (cell (mate c) 0) () 1

/-- Every semaphore of a TensorCore may be waited on; a barrier before a receive, everything else before both. -/
def waitable (g : GSem nD τ sig) : Finset Unit := if g.1.2 = .tc then {()} else ∅
def rank (g : GSem nD τ sig) (_ : Unit) : ℕ := if slot g.2 = some 0 then 1 else if slot g.2 = some 2 then 2 else 0

theorem waitable_tc (c : Dev nD) (s : SemLoc sig) : waitable ((c : Thread nD τ), s) = {()} := if_pos rfl
theorem waitable_other (g : GSem nD τ sig) (h : g.1.2 ≠ .tc) : waitable g = ∅ := if_neg h
theorem rank_bar (c : Dev nD) (u : Unit) : rank (cell c 0) u = 1 := if_pos (slot_semOf 0)
theorem rank_recv (c : Dev nD) (u : Unit) : rank (cell c 2) u = 2 := by
  unfold rank; rw [show slot (cell c 2).2 = some 2 from slot_semOf 2]; rfl

theorem owesCopy_pos {c : Dev nD} {g : GSem nD τ sig} {u : Unit} (h : 0 < owesCopy c g u) : g = cell (mate c) 2 := by
  unfold owesCopy at h; rw [tallyAt_apply] at h
  by_contra hn; rw [if_neg fun e => hn e.1] at h; exact Nat.lt_irrefl 0 h

theorem owes₀_pos {c : Dev nD} {g : GSem nD τ sig} {u : Unit} (h : 0 < owes₀ c g u) : g = cell (mate c) 2 ∨ g = cell (mate c) 0 := by
  by_contra hn
  rw [not_or] at hn
  unfold owes₀ owesCopy at h
  rw [Pi.add_apply, Finsupp.add_apply, tallyAt_apply, tallyAt_apply, if_neg fun e => hn.1 e.1, if_neg fun e => hn.2 e.1] at h
  exact Nat.lt_irrefl 0 h

omit [FloatOps F] in
/-- A device may wait on a semaphore below both of the exchange's while it owes its partner. -/
theorem wait_staging (c : Dev nD) (q : DmaSem sig) (hq : slot (.dma q) = none) (O : CellTallies nD τ sig Unit) (hO : O = owes₀ c ∨ O = 0) :
    (levAts waitable rank : sProp 𝕄) ⊢ MayWait (c : Thread nD τ) (.dma q) () O := by
  rcases hO with rfl | rfl
  · refine MayOwe.of_cut (L := waitable) (lev := rank) 0 (fun p hp => by rw [Finset.mem_singleton.mp hp, waitable_tc]; exact Finset.mem_singleton_self _)
      (fun g u hg => by rcases owes₀_pos hg with rfl | rfl <;> exact Finset.mem_singleton_self _)
      (fun p hp => by rw [Finset.mem_singleton.mp hp]; unfold rank; rw [hq]; decide)
      (fun g u hg => by
        rcases owes₀_pos hg with rfl | rfl
        · rw [rank_recv]; decide
        · rw [rank_bar]; decide)
  · rw [MayWait_zero]; iintro -; iempintro

omit [FloatOps F] in
/-- And on its barrier while it owes the copy's credit. -/
theorem wait_bar (c : Dev nD) : (levAts waitable rank : sProp 𝕄) ⊢ MayWait (c : Thread nD τ) (.reg barS) () (owesCopy c) :=
  MayOwe.of_cut (L := waitable) (lev := rank) 1 (fun p hp => by rw [Finset.mem_singleton.mp hp, waitable_tc]; exact Finset.mem_singleton_self _)
    (fun g u hg => by rw [owesCopy_pos hg, waitable_tc]; exact Finset.mem_singleton_self _)
    (fun p hp => by rw [Finset.mem_singleton.mp hp]; exact Nat.le_of_eq (rank_bar c ()))
    (fun g u hg => by rw [owesCopy_pos hg, rank_recv]; decide)

/-! ## What the body starts from -/

/-- Every device's three semaphores: their invariants, and that each is at its round 0. -/
def books (K : Dev nD × Fin 3 → ℕ) : sProp 𝕄 :=
  iprop((bigSep Finset.univ fun ck : Dev nD × Fin 3 => cellInv exch (plan m ρ) (K ck) (cell ck.1 ck.2))
    ∗ bigSep Finset.univ fun ck : Dev nD × Fin 3 => reached exch (cell ck.1 ck.2) 0)

instance books_persistent (K : Dev nD × Fin 3 → ℕ) : BI.Persistent (books m ρ K) := by unfold books; infer_instance

theorem books_inv (K : Dev nD × Fin 3 → ℕ) (c : Dev nD) (k : Fin 3) : books m ρ K ⊢ cellInv exch (plan m ρ) (K (c, k)) (cell c k) := by
  unfold books; iintro ⟨H, -⟩
  iapply (show (bigSep Finset.univ fun ck : Dev nD × Fin 3 => (cellInv exch (plan m ρ) (K ck) (cell ck.1 ck.2) : sProp 𝕄))
    ⊢ cellInv exch (plan m ρ) (K (c, k)) (cell c k) from bigSep_elim (Finset.mem_univ (c, k)))
  iexact H
theorem books_reached (K : Dev nD × Fin 3 → ℕ) (c : Dev nD) (k : Fin 3) : books m ρ K ⊢ reached exch (cell c k) 0 := by
  unfold books; iintro ⟨-, H⟩
  iapply (show (bigSep Finset.univ fun ck : Dev nD × Fin 3 => (reached exch (cell ck.1 ck.2) 0 : sProp 𝕄)) ⊢ reached exch (cell c k) 0
    from bigSep_elim (Finset.mem_univ (c, k)))
  iexact H

/-- Device `c`'s positions at its own three, and the tokens of what it pays: its partner's barrier and receive, its own send. -/
def stands (c : Dev nD) : sProp 𝕄 := iprop(atPos exch (cell c 0) 0 ∅ 0 ∗ atPos exch (cell c 1) 0 ∅ 0 ∗ atPos exch (cell c 2) 0 ∅ 0)
def pays (c : Dev nD) : sProp 𝕄 := iprop(dutyTok exch (cell (mate c) 0) 0 () ∗ dutyTok exch (cell c 1) 0 () ∗ dutyTok exch (cell (mate c) 2) 0 ())

def hand (K : Dev nD × Fin 3 → ℕ) (c : Dev nD) : sProp 𝕄 := iprop(books m ρ K ∗ stands c ∗ pays c)

/-- With the credit it will draw: its barrier's unit and its receive's. -/
def ready (c : Dev nD) : sProp 𝕄 :=
  iprop((∃ K, hand m ρ K c) ∗ cred (tallyAt (cell c 0) () 1) ∗ cred (tallyAt (cell c 2) () N) ∗ levAts waitable rank)

/-- The body's state before its one point: that, and the two buffers; and after: the buffers filled, the counters zero. -/
def before₀ (c : Dev nD) : sProp 𝕄 := iprop(ready m ρ c ∗ (∃ f, sendPts c f) ∗ ∃ f, recvPts c f)
def after₀ (c : Dev nD) : sProp 𝕄 :=
  iprop(sendPts c (sentAt m ρ c) ∗ recvPts c (sentAt m ρ (mate c)) ∗ semVal (cell c 0) 0 ∗ semVal (cell c 1) 0 ∗ semVal (cell c 2) 0)

def dats (_ : Fin 1) (c : Dev nD) : Dat τ (Elt F) Unit ℕ Res ℕ cfg0 c where
  A w := (start₀ m ρ).mem ((cfg0.win w).arr.view.loc (c : Thread nD τ))
  after w _ := match w with
    | ⟨0, _⟩ => blockAt m ρ c
    | ⟨1, _⟩ => outAt m ρ c
  Φ t := match t with
    | ⟨0, _⟩ => before₀ m ρ c
    | ⟨_ + 1, _⟩ => after₀ m ρ c
  q _ := fullShare
  owed t := match t with
    | ⟨0, _⟩ => owes₀ c
    | ⟨_ + 1, _⟩ => 0

abbrev noLoops : Variants := Variants.none

end Cert.TopK

end
-- ==== Proof.Body.lean ====
/- The body run on one device: its own 32 values into its send buffer, the signal, the barrier, the copy, the two waits,
   the selection from both. -/
module

public import proofs.«01_k».proof.Proof.Protocol

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

attribute [local irreducible] own32 both32

/-! ## Reading and writing whole buffers -/

abbrev all32 : Rect S1024x32 := Rect.unit (s := S1024x32) ![0, 0] S1024x32.size inb_S1024x32_S1024x32_0_0
abbrev allBlock : Rect S1024x8192 := Rect.unit (s := S1024x8192) ![0, 0] S1024x8192.size inb_S1024x8192_S1024x8192_0_0

omit [FloatOps F] in
theorem zeros : (![0, 0] : Fin 2 → Nat) = fun _ => 0 := by decide
omit [FloatOps F] in
theorem read_block (f : (cc0_stg0_0 : Ref sig .tc).ty.Contents (Elt F)) : blockM.view.readAt (Elt F) allBlock.toLoadRect f = f :=
  Memref.readAt_unit_zero (Elt F) cc0_stg0_0 zeros _ f
omit [FloatOps F] in
theorem read_recv (f : (cc0_scratch1 : Ref sig .tc).ty.Contents (Elt F)) : recvM.view.readAt (Elt F) all32.toLoadRect f = f :=
  Memref.readAt_unit_zero (Elt F) cc0_scratch1 zeros _ f
omit [FloatOps F] in
theorem write_send (f w : (cc0_scratch0 : Ref sig .tc).ty.Contents (Elt F)) :
    (sendM.access all32 : View sig .tc _ _ _).write (Elt F) f w Finset.univ = w :=
  Memref.write_access_unit_zero_univ (Elt F) cc0_scratch0 zeros _ f w
omit [FloatOps F] in
theorem write_out (f w : (cc0_stg1_0 : Ref sig .tc).ty.Contents (Elt F)) :
    (outM.access all32 : View sig .tc _ _ _).write (Elt F) f w Finset.univ = w :=
  Memref.write_access_unit_zero_univ (Elt F) cc0_stg1_0 zeros _ f w

/-! ## The exchange's steps -/

section Steps

variable (K : Dev nD × Fin 3 → ℕ) (c : Dev nD)

theorem send_credit : (sendM : Memref sig .tc .vmem S1024x32 .f32).view.dmaCredit = units 1 := by unfold units; rw [if_neg (by decide)]
theorem recv_credit : (recvM : Memref sig .tc .vmem S1024x32 .f32).view.dmaCredit = units 2 := by unfold units; rw [if_neg (by decide)]

omit m ρ K in
theorem awaits_bar (P : PUnit → sProp 𝕄) :
    wpE (defs₀ (F := F)) noLoops (c : Thread nD τ) none Set.univ (.semWait barS (1#32).toInt) P
      = waitSpec (c : Thread nD τ) Set.univ (semOf 0) (units 0) P := wpE_semWait_eq noLoops (c : Thread nD τ) none Set.univ P
omit m ρ K in
theorem awaits_send {h h' : View.WordExact _} (P : PUnit → sProp 𝕄) :
    wpE (defs₀ (F := F)) noLoops (c : Thread nD τ) none Set.univ (.waitDma2 sendS.sem recvM sendM h h') P
      = waitSpec (c : Thread nD τ) Set.univ (semOf 1) (units 1) P := by
  rw [← send_credit]; exact wpE_waitDma2_eq noLoops (c : Thread nD τ) none Set.univ P
omit m ρ K in
theorem awaits_recv {h h' : View.WordExact _} (P : PUnit → sProp 𝕄) :
    wpE (defs₀ (F := F)) noLoops (c : Thread nD τ) none Set.univ (.waitDma2 recvS.sem sendM recvM h h') P
      = waitSpec (c : Thread nD τ) Set.univ (semOf 2) (units 2) P := by
  rw [← recv_credit]; exact wpE_waitDma2_eq noLoops (c : Thread nD τ) none Set.univ P

/-- A wait for the one round of one of the device's own semaphores: what the round brings, and the counter at zero for good. -/
theorem wait_whole (k : Fin 3) {α : Type} {Q : α → sProp 𝕄} {e : TpuEff nD τ sig (Elt F) Λ₀ .tc PUnit}
    {v : PUnit → Prog (TpuEff nD τ sig (Elt F) Λ₀ .tc) α}
    (he : ∀ P : PUnit → sProp 𝕄, wpE (defs₀ (F := F)) noLoops (c : Thread nD τ) none Set.univ e P = waitSpec (c : Thread nD τ) Set.univ (semOf k) (units k) P)
    (O : CellTallies nD τ sig Unit) (W : Waits sig Unit) :
    iprop(books m ρ K ∗ cred (tallyAt (cell c k) () (units k)) ∗ owes (c : Thread nD τ) O W ∗ MayWait (c : Thread nD τ) (semOf k) () O
        ∗ atPos exch (cell c k) 0 ∅ 0)
      ⊢ iprop(((owes (c : Thread nD τ) O (insert (semOf k, ()) W) ∗ brings m ρ c k ∗ semVal (cell c k) 0)
          -∗ wp frame (wpE (defs₀ (F := F)) noLoops (c : Thread nD τ) none) Set.univ (v ⟨⟩) Q)
          -∗ wp frame (wpE (defs₀ (F := F)) noLoops (c : Thread nD τ) none) Set.univ (.op e v) Q) := by
  iintro ⟨#HB, Hc, HO, Hm, Ha⟩ Hk
  ihave #HI := (books_inv m ρ K c k) $$ HB
  iapply (Rounds.wp_wait_rest_token noLoops exch (plan m ρ) (c : Thread nD τ) none (κ := K (c, k)) he (Set.mem_univ _) () (O := O) (W := W)
      (R := 0) (m := 0) (T := ∅) (by rw [plan_expect, Nat.zero_add])) $$ [Hc HO Hm Ha]
  · isplitr; · iexact HI
    isplitl [Hc]; · iexact Hc
    isplitl [HO]; · iexact HO
    isplitl [Hm]; · iexact Hm
    iexact Ha
  iintro ⟨HO, Ha, -, Hp⟩
  ihave Hp := (Entails.of_eq (plan_rest m ρ c k)) $$ Hp
  imod (Rounds.cell_close exch (plan m ρ) (Set.mem_univ (K (c, k))) (fun h => h) (R := 0 + 1) (plan_over m ρ c k)) $$ [Ha] with Hz
  · isplitr; · iexact HI
    iexact Ha
  iapply Hk
  isplitl [HO]; · iexact HO
  isplitl [Hp]; · iexact Hp
  iexact Hz

theorem kept_send : ((View.loc (c : Thread nD τ) (sendM.access all32) ↦{fullShare}
    (shapeCast S1024x32 (own32 (blockAt m ρ c)) shapeCasts_S1024x32_S1024x32 : FVec F S1024x32 .f32)) : sProp 𝕄) = sendPts c (sentAt m ρ c) :=
  (sendPts_eq c (sentAt m ρ c)).symm

/-- What the partner's barrier is paid with: the device's own receive buffer. -/
theorem give_recv : (iprop(∃ f, recvPts c f) : sProp 𝕄) ⊢ (plan m ρ).payload (cell (mate c) 0) 0 () := by
  rw [plan_payload]; unfold brings; rw [mate_mate]

/-- The signal to the partner: its barrier's one unit, the device's own receive buffer handed over. -/
theorem signal_mate (n : Dev nD) (hn : n = mate c) {α : Type} {Q : α → sProp 𝕄} {v : PUnit → Prog (TpuEff nD τ sig (Elt F) Λ₀ .tc) α} (W : Waits sig Unit) :
    iprop(books m ρ K ∗ owes (c : Thread nD τ) (owes₀ c) W ∗ dutyTok exch (cell (mate c) 0) 0 () ∗ (∃ f, recvPts c f))
      ⊢ iprop((owes (c : Thread nD τ) (owesCopy c) W -∗ wp frame (wpE (defs₀ (F := F)) noLoops (c : Thread nD τ) none) Set.univ (v ⟨⟩) Q)
          -∗ wp frame (wpE (defs₀ (F := F)) noLoops (c : Thread nD τ) none) Set.univ (.op (.semSignal (n : Thread nD τ) barS (1#32).toInt) v) Q) := by
  subst hn
  iintro ⟨#HB, HO, Ht, Hr⟩
  ihave #HI := (books_inv m ρ K (mate c) 0) $$ HB
  ihave #HR := (books_reached m ρ K (mate c) 0) $$ HB
  iapply (Rounds.wp_signal noLoops exch (plan m ρ) (c : Thread nD τ) none (dst := (mate c : Thread nD τ)) (κ := K (mate c, 0))
      (d := ()) (plan_mem m ρ (mate c) 0) (plan_amount m ρ (mate c) 0 ()) () (owesCopy c) rfl)
  isplitr; · iexact HI
  isplitl [HO]; · iexact HO
  isplitl [Ht]; · iexact Ht
  isplitl [Hr]
  · iapply (give_recv m ρ c); iexact Hr
  iexact HR

/-- The copy of the device's 32 values to its partner's receive buffer. -/
theorem copy_mate (n : Dev nD) (hn : n = mate c) {hsc : (recvM : Memref sig (Dev.tc n : Thread nD τ).2.kind .vmem S1024x32 .f32).view.ref.isScScratch = false}
    {hsrc : sendM.view.WordExact} {hdst : (recvM : Memref sig .tc .vmem S1024x32 .f32).view.WordExact}
    {hsem : DmaTarget.Typed .vmem (.dma recvS.sem) (.remote (Dev.tc n : Thread nD τ) (recvM : Memref sig .tc .vmem S1024x32 .f32) (.dma sendS.sem) hsc)}
    {α : Type} {Q : α → sProp 𝕄} {v : PUnit → Prog (TpuEff nD τ sig (Elt F) Λ₀ .tc) α}
    (old : Buf (Elt F) (recvM.view.loc (mate c : Thread nD τ))) (W : Waits sig Unit) :
    iprop(books m ρ K ∗ sendPts c (sentAt m ρ c) ∗ recvPts (mate c) old ∗ owes (c : Thread nD τ) (owesCopy c) W
        ∗ dutyTok exch (cell c 1) 0 () ∗ dutyTok exch (cell (mate c) 2) 0 ())
      ⊢ iprop(((cred (tallyAt (cell c 1) () N) ∗ owes (c : Thread nD τ) 0 W)
            -∗ wp frame (wpE (defs₀ (F := F)) noLoops (c : Thread nD τ) none) Set.univ (v ⟨⟩) Q)
          -∗ wp frame (wpE (defs₀ (F := F)) noLoops (c : Thread nD τ) none) Set.univ
              (.op (.enqueueDma sendM (.remote (Dev.tc n : Thread nD τ) recvM (.dma sendS.sem) hsc) (.dma recvS.sem) hsrc hdst hsem) v) Q) := by
  subst hn
  iintro ⟨#HB, Hs, Hr, HO, Ht1, Ht2⟩
  ihave #HI1 := (books_inv m ρ K c 1) $$ HB
  ihave #HI2 := (books_inv m ρ K (mate c) 2) $$ HB
  ihave #HR1 := (books_reached m ρ K c 1) $$ HB
  ihave #HR2 := (books_reached m ρ K (mate c) 2) $$ HB
  unfold sendPts recvPts
  iapply (Rounds.wp_send_pointsTo noLoops exch (plan m ρ) (c : Thread nD τ) none (κ₁ := K (c, 1)) (κ₂ := K (mate c, 2))
    (r₁ := 0) (r₂ := 0) (d₁ := ()) (d₂ := ()) (fd := old) (plan_mem m ρ c 1) (plan_mem m ρ (mate c) 2)
    () () N rfl (plan_amount m ρ c 1 ()) (plan_amount m ρ (mate c) 2 ()) 0 (by rw [zero_add]) (W := W)
    (Entails.of_eq (plan_payload m ρ c 1 ()).symm)
    (by rw [plan_payload]; unfold brings recvPts; rw [copied, mate_mate]))
  isplitr; · iexact HI1
  isplitr; · iexact HI2
  isplitl [Hs]; · iexact Hs
  isplitl [Hr]; · iexact Hr
  isplitl [HO]; · iexact HO
  isplitl [Ht1]; · iexact Ht1
  isplitr; · iexact HR1
  isplitl [Ht2]; · iexact Ht2
  iexact HR2

end Steps

/-! ## The whole body -/

abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem holds_whole (c : Dev nD) (b : Ref sig .tc) (X : b.ty.Contents (Elt F)) :
    (owns (Ix := Unit) (Name := ℕ) (U := Res) (Lvl := ℕ) (c : Thread nD τ) (Memref.whole b) fullShare X : sProp 𝕄) = holds c b X := by
  unfold owns; simp only [Memref.view_whole, View.read_whole, View.set_whole]

def bodyFrom (c : Dev nD) : sProp 𝕄 :=
  iprop(before₀ m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))

def bodyTo (c : Dev nD) : sProp 𝕄 :=
  iprop(after₀ m ρ c ∗ (dats m ρ 0 c).owesAt () t0_0.succ ∗ holds c cc0_stg0_0 (blockAt m ρ c) ∗ holds c cc0_stg1_0 (outAt m ρ c))

theorem fetched (t : Fin cfg0.N) : (cfg0.win (0 : Fin 2)).fetch t = true := by rw [show t = t0_0 from fin_N0 t]; rfl

set_option maxHeartbeats 800000 in
theorem body_run (c : Dev nD) :
    bodyFrom m ρ c ⊢ wp frame (wpE (defs₀ (F := F)) noLoops (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyTo m ρ c) := by
  rw [body_eq_sequence]; unfold sequence
  simp only [semSignalWord, semWaitWord, Prog.lift, Prog.bind_op, Prog.bind, wp_deviceId]
  unfold bodyFrom before₀ ready hand stands pays
  iintro ⟨⟨⟨⟨%K, #HB, ⟨HaB, HaS, HaR⟩, HtB, HtS, HtR⟩, HcB, HcR, #Hlev⟩, ⟨%fs, Hs⟩, Hr⟩, Ho, ⟨%d0, %g0, %hg0, Hx⟩, ⟨%d1, %g1, %hg1, Hout⟩⟩
  have hx : g0 = blockAt m ρ c := by rw [hg0]; unfold Dat.before; rw [if_pos (fetched t0_0)]; rfl
  subst hx
  unfold Dat.owesAt Pipeline.owesWithin
  icases Ho with ⟨%W, %hW, HO⟩
  rw [show (dats m ρ 0 c).owed t0_0.castSucc = owes₀ c from rfl]
  -- the device's own 32 values into its send buffer
  iapply (wp_load noLoops (c : Thread nD τ) none Set.univ (m := blockM) (Finset.subset_univ _)) $$ Hx; iintro Hx
  rw [read_block]
  ihave Hs := (Entails.of_eq (sendPts_eq c fs)) $$ Hs
  iapply (wp_load noLoops (c : Thread nD τ) none Set.univ (m := sendM) (Finset.subset_univ _)) $$ Hs; iintro Hs
  iapply (wp_store noLoops (c : Thread nD τ) none Set.univ (m := sendM) (r := all32) (Mk := Finset.univ) (Finset.subset_univ _)) $$ Hs; iintro Hs
  rw [write_send]
  -- the signal and the barrier: the partner's receive buffer
  iapply (signal_mate m ρ K c _ (dev1_mate c) W) $$ [HO HtB Hr]
  · isplitr; · iexact HB
    isplitl [HO]; · iexact HO
    isplitl [HtB]; · iexact HtB
    iexact Hr
  iintro HO
  iapply (wait_whole m ρ K c 0 (awaits_bar c) (owesCopy c) W) $$ [HcB HO HaB]
  · isplitr; · iexact HB
    isplitl [HcB]; · iexact HcB
    isplitl [HO]; · iexact HO
    isplitr; · iapply (wait_bar c); iexact Hlev
    iexact HaB
  iintro ⟨HO, Hp, HzB⟩
  unfold brings
  icases Hp with ⟨%old, Hp⟩
  -- the copy, and the waits for its two ends
  ihave Hs := (Entails.of_eq (kept_send m ρ c)) $$ Hs
  iapply (copy_mate m ρ K c _ (dev2_mate c) old _) $$ [Hs Hp HO HtS HtR]
  · isplitr; · iexact HB
    isplitl [Hs]; · iexact Hs
    isplitl [Hp]; · iexact Hp
    isplitl [HO]; · iexact HO
    isplitl [HtS]; · iexact HtS
    iexact HtR
  iintro ⟨HcS, HO⟩
  iapply (wait_whole m ρ K c 1 (awaits_send c) 0 _) $$ [HcS HO HaS]
  · isplitr; · iexact HB
    isplitl [HcS]; · iexact HcS
    isplitl [HO]; · iexact HO
    isplitr; · rw [MayWait_zero]; iempintro
    iexact HaS
  iintro ⟨HO, Hs, HzS⟩
  iapply (wait_whole m ρ K c 2 (awaits_recv c) 0 _) $$ [HcR HO HaR]
  · isplitr; · iexact HB
    isplitl [HcR]; · iexact HcR
    isplitl [HO]; · iexact HO
    isplitr; · rw [MayWait_zero]; iempintro
    iexact HaR
  iintro ⟨HO, Hr, HzR⟩
  unfold brings
  -- the selection from both
  rw [recvPts_eq]
  iapply (wp_load noLoops (c : Thread nD τ) none Set.univ (m := recvM) (Finset.subset_univ _)) $$ Hr; iintro Hr
  rw [read_recv]
  iapply (wp_load noLoops (c : Thread nD τ) none Set.univ (m := outM) (Finset.subset_univ _)) $$ Hout; iintro Hout
  iapply (wp_store noLoops (c : Thread nD τ) none Set.univ (m := outM) (r := all32) (Mk := Finset.univ) (Finset.subset_univ _)) $$ Hout; iintro Hout
  rw [write_out, wp_ret]; imodintro
  unfold bodyTo after₀ Dat.owesAt Pipeline.owesWithin
  rw [show (dats m ρ 0 c).owed t0_0.succ = 0 from rfl]
  isplitl [Hs Hr HzB HzS HzR]
  · isplitl [Hs]; · iexact Hs
    isplitl [Hr]; · rw [recvPts_eq]; iexact Hr
    isplitl [HzB]; · iexact HzB
    isplitl [HzS]; · iexact HzS
    iexact HzR
  isplitl [HO]
  · iexists _
    isplitr; rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
/-- The body at its one point, as the launch asks for it. -/
theorem body_obligation (c : Dev nD) : BodyObligation (dats (F := F) m ρ 0 c) (defs₀ (F := F)) noLoops () Set.univ := fun t => by
  rw [show t = t0_0 from fin_N0 t]
  rw [bigSep_W0, bigSep_W0]
  simp only [holds_whole]
  exact body_run m ρ c

end Cert.TopK

end
-- ==== Proof.Launch.lean ====
/- The launch: every device's three semaphores set up at once, the tokens dealt to the devices that pay with them, and the
   run of the whole program from any memory with all counters zero. -/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

abbrev ownSem : Fin 2 → SemLoc sig := fun | 0 => .dma sendS.sem | 1 => .dma recvS.sem

theorem ownSemFacts : Pipeline.OwnSemFacts cfg0.spec ownSem := by decide

theorem share_full (c : Dev nD) (w : Fin cfg0.W) : (dats m ρ 0 c).share w = fullShare := by unfold Dat.share; split <;> rfl

/-! ## The semaphores' states and tokens, as the launch deals them -/

abbrev cellAt (x : Dev nD × Fin 3) : GSem nD τ sig := cell x.1 x.2
theorem cellAt_injective : Function.Injective cellAt := fun _ _ h => Prod.ext (cell_inj.mp h).1 (cell_inj.mp h).2

abbrev tokAt (x : Dev nD × Fin 3) : GSem nD τ sig × ℕ × Unit := (cellAt x, 0, ())
theorem tokAt_injective : Function.Injective tokAt := fun _ _ h => cellAt_injective (congrArg Prod.fst h)

def allCells : Finset (GSem nD τ sig) := Finset.univ.map ⟨cellAt, cellAt_injective⟩
def allToks : Finset (GSem nD τ sig × ℕ × Unit) := Finset.univ.map ⟨tokAt, tokAt_injective⟩

def dealt₀ : Res := (initOf (Pipeline.cells cfgs cellOf_inj) (Pipeline.launchToks cfgs cellOf_inj), initOf allCells allToks)

/-- Device `c`'s three semaphores at their first round, with the tokens of their payments. -/
def deal (c : Dev nD) : sProp 𝕄 :=
  iprop((bigSep Finset.univ fun k : Fin 3 => roundState exch (plan m ρ) (cell c k) 0)
    ∗ (bigSep Finset.univ fun k : Fin 3 => atPos exch (cell c k) 0 ∅ 0)
    ∗ (bigSep Finset.univ fun k : Fin 3 => reached exch (cell c k) 0)
    ∗ bigSep Finset.univ fun k : Fin 3 => dutyTok exch (cell c k) 0 ())

omit [FloatOps F] in
theorem three (Φ : Fin 3 → sProp 𝕄) : bigSep Finset.univ Φ = iprop(Φ 0 ∗ Φ 1 ∗ Φ 2) := bigSep_univ_eq_bigSepL [0, 1, 2] (by decide) (by decide) Φ

theorem fund_deal : BI.own (exch (initOf allCells allToks)) ⊢ (|==> bigSep Finset.univ (deal m ρ) : sProp 𝕄) := by
  have hc (Φ : GSem nD τ sig → sProp 𝕄) : bigSep allCells Φ = bigSep Finset.univ fun c : Dev nD => bigSep Finset.univ fun k : Fin 3 => Φ (cell c k) := by
    unfold allCells; rw [bigSep_map, bigSep_univ_prod]; rfl
  have ht : bigSep allToks (fun x => (dutyTok exch x.1 x.2.1 x.2.2 : sProp 𝕄))
      = bigSep Finset.univ fun c : Dev nD => bigSep Finset.univ fun k : Fin 3 => dutyTok exch (cell c k) 0 () := by
    unfold allToks; rw [bigSep_map, bigSep_univ_prod]; rfl
  iintro H
  imod (Rounds.fund exch (plan m ρ) allCells allToks) $$ H with ⟨Hs, Hr, Ha, Ht⟩
  imodintro
  ihave Hs := (Entails.of_eq (hc fun g => roundState exch (plan m ρ) g 0)) $$ Hs
  ihave Ha := (Entails.of_eq (hc fun g => atPos exch g 0 ∅ 0)) $$ Ha
  ihave Hr := (Entails.of_eq (hc fun g => reached exch g 0)) $$ Hr
  ihave Ht := (Entails.of_eq ht) $$ Ht
  unfold deal; simp only [bigSep_sep']
  isplitl [Hs]; · iexact Hs
  isplitl [Ha]; · iexact Ha
  isplitl [Hr]; · iexact Hr
  iexact Ht

omit [FloatOps F] in
theorem ownSems_eq (c : Dev nD) : (Pipeline.ownSems0 (Ix := Unit) (Name := ℕ) (U := Res) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl
omit [FloatOps F] in
theorem barrier_eq (c : Dev nD) : (unscopedSems0 c : sProp 𝕄) = semVal (cell c 0) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := Res) (Lvl := ℕ) (Val := Elt F) (τ := τ) ownSem c ∗ unscopedSems0 c)
      ⊢ (bigSep Finset.univ fun k : Fin 3 => semVal (cell c k) 0 : sProp 𝕄) := by
  rw [ownSems_eq, barrier_eq, three]
  iintro ⟨⟨H1, H2⟩, H0⟩
  isplitl [H0]; · iexact H0
  isplitl [H1] <;> iassumption

/-- One device's semaphores put under their invariants. -/
theorem open_books (c : Dev nD) :
    iprop(Pipeline.ownSems0 (Ix := Unit) (Name := ℕ) (U := Res) (Lvl := ℕ) (Val := Elt F) (τ := τ) ownSem c ∗ unscopedSems0 c ∗ deal m ρ c)
      ⊢ |={Set.univ}=> iprop((bigSep Finset.univ fun k : Fin 3 => iprop(∃ κ : ℕ, cellInv exch (plan m ρ) κ (cell c k)))
          ∗ (bigSep Finset.univ fun k : Fin 3 => atPos exch (cell c k) 0 ∅ 0)
          ∗ (bigSep Finset.univ fun k : Fin 3 => reached exch (cell c k) 0)
          ∗ bigSep Finset.univ fun k : Fin 3 => dutyTok exch (cell c k) 0 ()) := by
  unfold deal
  iintro ⟨Ho, Hu, Hs, Hrest⟩
  ihave Hv := (counters (F := F) c) $$ [Ho Hu]
  · isplitl [Ho] <;> iassumption
  imod (show iprop((bigSep Finset.univ fun k : Fin 3 => semVal (cell c k) 0) ∗ bigSep Finset.univ fun k : Fin 3 => roundState exch (plan m ρ) (cell c k) 0)
      ⊢ (|={Set.univ}=> bigSep Finset.univ fun k : Fin 3 => iprop(∃ κ : ℕ, cellInv exch (plan m ρ) κ (cell c k)) : sProp 𝕄) from by
        rw [← bigSep_sep']
        exact (bigSep_mono fun k _ => (Rounds.body_intro exch (plan m ρ) (cell c k)).trans inv_alloc).trans (bigSep_fupd _ _)) $$ [Hv Hs] with Hinv
  · isplitl [Hv] <;> iassumption
  imodintro
  isplitl [Hinv]; · iexact Hinv
  iexact Hrest

def mates : Dev nD ≃ Dev nD := ⟨mate, mate, mate_mate, mate_mate⟩

omit [FloatOps F] in
/-- The tokens dealt out: a barrier's and a receive's to the partner, a send's to the device itself. -/
theorem deal_pays : (bigSep Finset.univ fun c : Dev nD => bigSep Finset.univ fun k : Fin 3 => (dutyTok exch (cell c k) 0 () : sProp 𝕄))
    ⊢ bigSep Finset.univ fun c : Dev nD => pays c := by
  unfold pays
  rw [bigSep_congr (s := Finset.univ) (fun (c : Dev nD) _ => three (fun k : Fin 3 => (dutyTok exch (cell c k) 0 () : sProp 𝕄)))]
  simp only [bigSep_sep']
  rw [bigSep_univ_equiv mates (fun c : Dev nD => (dutyTok exch (cell c 0) 0 () : sProp 𝕄)),
    bigSep_univ_equiv mates (fun c : Dev nD => (dutyTok exch (cell c 2) 0 () : sProp 𝕄))]
  exact BI.Entails.refl _

omit [FloatOps F] in
theorem sep_everywhere {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather_books :
    (bigSep Finset.univ fun c : Dev nD => iprop((bigSep Finset.univ fun k : Fin 3 => iprop(∃ κ : ℕ, cellInv exch (plan m ρ) κ (cell c k)))
          ∗ (bigSep Finset.univ fun k : Fin 3 => atPos exch (cell c k) 0 ∅ 0)
          ∗ (bigSep Finset.univ fun k : Fin 3 => reached exch (cell c k) 0)
          ∗ bigSep Finset.univ fun k : Fin 3 => dutyTok exch (cell c k) 0 ()) : sProp 𝕄)
      ⊢ bigSep Finset.univ fun c : Dev nD => iprop(∃ K, hand m ρ K c) := by
  simp only [bigSep_sep']
  rw [← bigSep_univ_prod (fun x : Dev nD × Fin 3 => iprop(∃ κ : ℕ, cellInv exch (plan m ρ) κ (cell x.1 x.2))),
    ← bigSep_univ_prod (fun x : Dev nD × Fin 3 => (reached exch (cell x.1 x.2) 0 : sProp 𝕄))]
  iintro ⟨HI, Ha, #HR, Ht⟩
  ihave HK := (BI.bigSep_exists_pi Finset.univ (fun (x : Dev nD × Fin 3) (κ : ℕ) => (cellInv exch (plan m ρ) κ (cell x.1 x.2) : sProp 𝕄))) $$ HI
  icases HK with ⟨%K, #HI⟩
  ihave Hp := (deal_pays (F := F)) $$ Ht
  iapply (sep_everywhere (R := books m ρ K) (Φ := fun c => iprop(stands c ∗ pays c)) fun c _ => show iprop(books m ρ K ∗ stands c ∗ pays c) ⊢ iprop(∃ K, hand m ρ K c) from by
    unfold hand; iintro H; iexists K; iexact H)
  isplitr
  · unfold books; isplitl; · iexact HI
    iexact HR
  rw [bigSep_sep']
  isplitl [Ha]
  · iapply (Entails.of_eq (bigSep_congr (s := Finset.univ) fun (c : Dev nD) _ =>
      show (bigSep Finset.univ fun k : Fin 3 => (atPos exch (cell c k) 0 ∅ 0 : sProp 𝕄)) = stands c from by unfold stands; rw [three]))
    iexact Ha
  iexact Hp

/-- All devices' semaphores at once. -/
theorem setUp : (bigSep Finset.univ fun c => iprop(Pipeline.ownSems0 (Ix := Unit) (Name := ℕ) (U := Res) (Lvl := ℕ) (Val := Elt F) (τ := τ) ownSem c
      ∗ unscopedSems0 c ∗ deal m ρ c) : sProp 𝕄)
    ⊢ |={Set.univ}=> bigSep Finset.univ fun c : Dev nD => iprop(∃ K, hand m ρ K c) :=
  ((bigSep_mono fun c _ => open_books m ρ c).trans (bigSep_fupd _ _)).trans (BI.fupd_mono (gather_books m ρ))

/-! ## The credit a device starts with -/

omit [FloatOps F] in
theorem owes_at (d c : Dev nD) (k : Fin 3) (n : ℕ) :
    (tallyAt (cell (mate d) k) () n : CellTallies nD τ sig Unit) (cell c k) () = if d = mate c then n else 0 := by
  rw [tallyAt_apply]
  by_cases h : d = mate c
  · subst h; rw [mate_mate, if_pos ⟨rfl, rfl⟩, if_pos rfl]
  · rw [if_neg (fun e => h (by rw [← mate_mate d]; exact congrArg mate (cell_inj.mp e.1).1.symm)), if_neg h]

omit [FloatOps F] in
theorem owes_off {d c : Dev nD} {k l : Fin 3} (h : k ≠ l) (n : ℕ) :
    (tallyAt (cell d k) () n : CellTallies nD τ sig Unit) (cell c l) () = 0 := by
  rw [tallyAt_apply, if_neg fun e => h (cell_inj.mp e.1).2.symm]

omit [FloatOps F] in
theorem credit_at (c : Dev nD) (k : Fin 3) (n : ℕ) (h : ∀ d : Dev nD, owes₀ d (cell c k) () = if d = mate c then n else 0) :
    tallyOn (cell c k) (launchCredit (Pipeline.owing owes₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

omit [FloatOps F] in
theorem credit_bar (c : Dev nD) : tallyOn (cell c 0) (launchCredit (Pipeline.owing owes₀) 0 (cell c 0)) = (tallyAt (cell c 0) () 1 : CellTallies nD τ sig Unit) :=
  credit_at c 0 1 fun d => by
    unfold owes₀ owesCopy
    rw [Pi.add_apply, Finsupp.add_apply, owes_off (by decide), owes_at, Nat.zero_add]
omit [FloatOps F] in
theorem credit_recv (c : Dev nD) : tallyOn (cell c 2) (launchCredit (Pipeline.owing owes₀) 0 (cell c 2)) = (tallyAt (cell c 2) () N : CellTallies nD τ sig Unit) :=
  credit_at c 2 N fun d => by
    unfold owes₀ owesCopy
    rw [Pi.add_apply, Finsupp.add_apply, owes_at, owes_off (by decide), Nat.add_zero]

omit [FloatOps F] in
theorem credits (c : Dev nD) : (Pipeline.launchCred owes₀ c : sProp 𝕄) ⊢ iprop(cred (tallyAt (cell c 0) () 1) ∗ cred (tallyAt (cell c 2) () N)) := by
  unfold Pipeline.launchCred
  rw [bigSep_univ_at _ (SemLoc.reg barS), show (((c : Thread nD τ), SemLoc.reg barS) : GSem nD τ sig) = cell c 0 from rfl, credit_bar]
  refine sep_mono_right ?_
  rw [← credit_recv]
  exact bigSep_elim (i := semOf 2) (Finset.mem_erase.mpr ⟨by decide, Finset.mem_univ _⟩)

/-! ## The launch theorem's conditions -/

theorem ready_intro (c : Dev nD) :
    iprop(Pipeline.unscopedRestP Pipeline.Prefetch.none cfg0.spec c (fun b => m ((c : Thread nD τ).loc b)) ∗ levAts waitable rank
        ∗ Pipeline.launchCred owes₀ c ∗ prngReg c (ρ c) ∗ ∃ K, hand m ρ K c)
      ⊢ |={Set.univ}=> iprop(ready m ρ c ∗ emp) := by
  iintro ⟨-, Hlev, Hcr, -, HG⟩
  ihave Hc := (credits (F := F) c) $$ Hcr
  icases Hc with ⟨H1, HN⟩
  imodintro
  unfold ready
  isplitl
  · isplitl [HG]; · iexact HG
    isplitl [H1]; · iexact H1
    isplitl [HN]; · iexact HN
    iexact Hlev
  · iempintro

theorem enter (c : Dev nD) :
    iprop(ready m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀
  iintro ⟨H, -, ⟨%f, Hs⟩, ⟨%g, Hr⟩⟩
  isplitl [H]; · iexact H
  isplitl [Hs]
  · iexists f; rw [sendPts_eq]; iexact Hs
  iexists g; rw [recvPts_eq]; iexact Hr

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after₀ m ρ c from rfl, scopedRest0_eq, ownSems_eq, barrier_eq]
  unfold after₀
  rw [sendPts_eq, recvPts_eq]
  iintro ⟨Hs, Hr, H0, H1, H2⟩
  isplitl [H0]; · iexact H0
  isplitl [H1 H2]
  · isplitl [H1] <;> iassumption
  isplitl [Hs]
  · iexists _; iexact Hs
  iexists _; iexact Hr

theorem stage_waits (c : Dev nD) : (levAts waitable rank : sProp 𝕄) ⊢ Pipeline.cellsWaits cfgs (dats m ρ) () 0 c :=
  Pipeline.cellsWaits_intro cfgs (dats m ρ) () 0 c fun w s t =>
    wait_staging c _ (by fin_cases w <;> fin_cases s <;> decide) _ (by
      rcases t with ⟨_ | _, ht⟩
      · exact Or.inl rfl
      · exact Or.inr rfl)

/-! ## The run -/

def final (c : Dev nD) (w : Fin cfg0.W) : Buf (Elt F) ((cfg0.win w).arr.view.loc (c : Thread nD τ)) := (dats m ρ 0 c).arrAt w cfg0.N

set_option maxRecDepth 8000 in
/-- From any memory with zero counters, every execution of the program ends, with each device's arrays at the computed
    contents and all counters at zero. -/
theorem run_main : θ_run defs (onTc (τ := τ) (main (F := F))) (start₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) staging defs₀ noLoops m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := owes₀) (howed₀ := fun _ => rfl) (howedN := fun _ => rfl)
    (L := waitable) (lv := rank) (hL := waitable_other) (hwaits := stage_waits m ρ)
    (G := deal m ρ) (G' := fun c => iprop(∃ K, hand m ρ K c)) (u₀ := dealt₀)
    (hu₀ := by
      unfold dealt₀
      iintro Hu
      ihave H := (ownU_pair _ _) $$ Hu
      icases H with ⟨HP, HX⟩
      imod (fund_deal m ρ) $$ HX with HG
      imodintro
      isplitl [HP] <;> iassumption)
    (hglob := setUp m ρ)
    (hA := fun _ _ => rfl) (hpf := fun _ k => k.elim0)
    (X := ready m ρ) (Y := fun c => unscopedSems0 c) (Z := fun _ => iprop(emp))
    (hX := ready_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's input array after the run is as before it. -/
theorem final_arg (c : Dev nD) : final m ρ c (0 : Fin 2) = (start₀ m ρ).mem (win0_0.arr.view.loc (c : Thread nD τ)) :=
  (dats (F := F) m ρ 0 c).arrAt_in (0 : Fin 2) rfl _

end Cert.TopK

end
-- ==== Proof.Descent.lean ====
/- Going down a finite set of extended reals: the greatest element below a bound, taken again and again from the top. The
   32 steps that the program takes over a device's columns are such a descent; so are the 32 it takes over what both
   devices kept; and so, where they are told apart, are the leading values of the sorted row. -/
module

public import Mathlib.Data.EReal.Basic
public import Mathlib.Data.Finset.Lattice.Fold

@[expose] public section

namespace Cert.TopK

/-- The greatest element of `S` below `t`, `⊥` if there is none. -/
noncomputable def nextBelow (S : Finset EReal) (t : EReal) : EReal := (S.filter (· < t)).sup id

/-- The bound after `k` steps down from `⊤`. -/
noncomputable def descend (S : Finset EReal) : ℕ → EReal
  | 0 => ⊤
  | k + 1 => nextBelow S (descend S k)

variable {S L R T : Finset EReal} {t x : EReal}

theorem le_nextBelow (hx : x ∈ S) (h : x < t) : x ≤ nextBelow S t :=
  Finset.le_sup (f := id) (Finset.mem_filter.mpr ⟨hx, h⟩)

theorem nextBelow_le {b : EReal} (h : ∀ x ∈ S, x < t → x ≤ b) : nextBelow S t ≤ b :=
  Finset.sup_le fun x hx => h x (Finset.mem_filter.mp hx).1 (Finset.mem_filter.mp hx).2

/-- It is an element below the bound, unless it is `⊥`. -/
theorem nextBelow_mem (h : nextBelow S t ≠ ⊥) : nextBelow S t ∈ S ∧ nextBelow S t < t := by
  have hne : (S.filter (· < t)).Nonempty := by
    by_contra hn
    rw [Finset.not_nonempty_iff_eq_empty] at hn
    exact h (by unfold nextBelow; rw [hn, Finset.sup_empty])
  obtain ⟨x, hx, he⟩ := Finset.exists_mem_eq_sup _ hne (id : EReal → EReal)
  have he' : nextBelow S t = x := he
  rw [he']
  exact Finset.mem_filter.mp hx

theorem nextBelow_lt_top : nextBelow S t < ⊤ := by
  by_cases h : nextBelow S t = ⊥
  · rw [h]; exact bot_lt_top
  · exact lt_of_lt_of_le (nextBelow_mem h).2 le_top

theorem nextBelow_mono {s : EReal} (hS : L ⊆ S) (h : s ≤ t) : nextBelow L s ≤ nextBelow S t :=
  nextBelow_le fun _ hx hs => le_nextBelow (hS hx) (lt_of_lt_of_le hs h)

theorem descend_mono (hS : L ⊆ S) : ∀ k, descend L k ≤ descend S k
  | 0 => le_rfl
  | k + 1 => nextBelow_mono hS (descend_mono hS k)

/-- An element no step has met is still below. -/
theorem lt_descend (hx : x ∈ S) (hx' : x < ⊤) : ∀ k, (∀ j < k, x ≠ descend S (j + 1)) → x < descend S k
  | 0, _ => hx'
  | k + 1, h => lt_of_le_of_ne (le_nextBelow hx (lt_descend hx hx' k fun j hj => h j (Nat.lt_succ_of_lt hj))) (h k (Nat.lt_succ_self k))

/-- What `k + 1` steps down `S` meet last, a part of `S` that holds it has met by then. -/
theorem met_in_part (hL : L ⊆ S) (k : ℕ) (hx : descend S (k + 1) ∈ L) : ∃ j ≤ k, descend S (k + 1) = descend L (j + 1) := by
  by_contra hn
  have h : descend S (k + 1) < descend L (k + 1) :=
    lt_descend hx nextBelow_lt_top (k + 1) fun j hj he => hn ⟨j, Nat.le_of_lt_succ hj, he⟩
  exact absurd h (not_lt.mpr (descend_mono hL (k + 1)))

/-- The first `n` steps down `L ∪ R` are those down any `T` that holds the first `n` of `L` and the first `n` of `R` and
    nothing else but what `L ∪ R` holds. -/
theorem descend_merge {n : ℕ} (hLT : ∀ j < n, descend L (j + 1) ∈ T) (hRT : ∀ j < n, descend R (j + 1) ∈ T)
    (hT : ∀ x ∈ T, x = ⊥ ∨ x ∈ L ∪ R) : ∀ k ≤ n, descend T k = descend (L ∪ R) k
  | 0, _ => rfl
  | k + 1, hk => by
    have ih := descend_merge hLT hRT hT k (Nat.le_of_succ_le hk)
    refine le_antisymm ?_ ?_
    · refine nextBelow_le fun x hx hlt => ?_
      rcases hT x hx with rfl | hx
      · exact bot_le
      · exact le_nextBelow hx (ih ▸ hlt)
    · by_cases hb : descend (L ∪ R) (k + 1) = ⊥
      · rw [hb]; exact bot_le
      have hm := nextBelow_mem hb
      have key : descend (L ∪ R) (k + 1) ∈ T := by
        rcases Finset.mem_union.mp hm.1 with h | h
        · obtain ⟨j, hj, he⟩ := met_in_part Finset.subset_union_left k h
          rw [he]; exact hLT j (Nat.lt_of_le_of_lt hj hk)
        · obtain ⟨j, hj, he⟩ := met_in_part Finset.subset_union_right k h
          rw [he]; exact hRT j (Nat.lt_of_le_of_lt hj hk)
      exact le_nextBelow key (by rw [ih]; exact hm.2)

/-- Every step's value is an element or `⊥`. -/
theorem descend_mem (k : ℕ) : descend S (k + 1) = ⊥ ∨ descend S (k + 1) ∈ S := by
  by_cases h : descend S (k + 1) = ⊥
  · exact Or.inl h
  · exact Or.inr (nextBelow_mem h).1

/-! ## Down a sorted list -/

section Sorted

variable {n : ℕ} (v : ℕ → EReal) (hv : ∀ i j, i ≤ j → j < n → v j ≤ v i) (hS : ∀ x, x ∈ S ↔ ∃ i < n, v i = x)
include hv hS

/-- The steps fall at least as fast as the list. -/
theorem descend_le_sorted : ∀ k < n, descend S (k + 1) ≤ v k
  | 0, _ => nextBelow_le fun x hx _ => by
    obtain ⟨i, hi, rfl⟩ := (hS x).mp hx
    exact hv 0 i (Nat.zero_le _) hi
  | k + 1, hk => nextBelow_le fun x hx hlt => by
    obtain ⟨i, hi, rfl⟩ := (hS x).mp hx
    have hle := descend_le_sorted k (Nat.lt_of_succ_lt hk)
    by_cases hik : i ≤ k
    · exact absurd (lt_of_lt_of_le hlt hle) (not_lt.mpr (hv i k hik (Nat.lt_of_succ_lt hk)))
    · exact hv (k + 1) i (Nat.lt_of_not_le hik) hi

/-- Where the list falls strictly from `⊤` down to its entry `k`, the steps are its entries. -/
theorem descend_eq_sorted (k : ℕ) (hk : k < n) (h : ∀ j ≤ k, v j < if j = 0 then ⊤ else v (j - 1)) : descend S (k + 1) = v k := by
  induction k with
  | zero => exact le_antisymm (descend_le_sorted v hv hS 0 hk) (le_nextBelow ((hS _).mpr ⟨0, hk, rfl⟩) (h 0 le_rfl))
  | succ k ih =>
    refine le_antisymm (descend_le_sorted v hv hS (k + 1) hk) (le_nextBelow ((hS _).mpr ⟨k + 1, hk, rfl⟩) ?_)
    rw [ih (Nat.lt_of_succ_lt hk) fun j hj => h j (Nat.le_succ_of_le hj)]
    exact h (k + 1) le_rfl

/-- And where the list's entry is `⊥`, so is the step. -/
theorem descend_eq_bot (k : ℕ) (hk : k < n) (h : v k = ⊥) : descend S (k + 1) = v k := by
  rw [h]; exact le_bot_iff.mp (h ▸ descend_le_sorted v hv hS k hk)

end Sorted

end Cert.TopK

end
-- ==== Proof.Selected.lean ====
/- The kernel's selection at the ideal values, one row at a time: column `k` of `select32` holds, in row `i`, the row's
   (k+1)-th value of the descent from +inf (Proof/Descent.lean). -/
module

public import proofs.«01_k».proof.Proof.Column
public import proofs.«01_k».proof.Proof.Descent
public import Idealize.ShloMosaic.PureOps.Ideal.Laws
public import Idealize.ShloMosaic.Lib.ValueIdx
public import Idealize.ShloMosaic.Lib.Pipeline.Value

@[expose] public section

noncomputable section

namespace Cert.TopK

open Cert.KernelIdeal Cert.KernelIdeal.Gen
open Idealize.ShloMosaic Idealize.ShloMosaic.ValueIdx

theorem posInf : Ideal.ofBits .f32 0x7F800000#32 = (⊤ : EReal) := by simp [Ideal.ofBits, Ideal.ieee]
theorem negInf : Ideal.ofBits .f32 0xFF800000#32 = (⊥ : EReal) := by simp [Ideal.ofBits, Ideal.ieee]

/-- The values of row `i`. -/
def row {n : Nat} (x : (⟨2, ![1024, n]⟩ : Shape).Idx → EReal) (i : Fin 1024) : Finset EReal :=
  Finset.univ.image fun j => x (ix2 i j)

theorem mem_row {n : Nat} {x : (⟨2, ![1024, n]⟩ : Shape).Idx → EReal} {i : Fin 1024} {v : EReal} :
    v ∈ row x i ↔ ∃ j, x (ix2 i j) = v := by
  simp [row]

section Selection

variable {n : Nat} (hb : S1024x1.Broadcasts ⟨2, ![1024, n]⟩) (hr : (⟨2, ![1024, n]⟩ : Shape).Reduces [1] S1024)
variable (x : FVec Ideal ⟨2, ![1024, n]⟩ .f32)

/-- A largest entry taken under a test, -inf where it fails, is the largest value of the row strictly below the bound. -/
theorem fold_below (t : EReal) (i : Fin 1024) :
    (Finset.univ : Finset (Fin n)).fold max ⊥ (fun j => if x (ix2 i j) < t then (x (ix2 i j) : EReal) else ⊥)
      = nextBelow (row x i) t := by
  change (Finset.univ : Finset (Fin n)).sup (fun j => if x (ix2 i j) < t then (x (ix2 i j) : EReal) else ⊥) = _
  apply le_antisymm
  · refine Finset.sup_le fun j _ => ?_
    split
    · next h => exact le_nextBelow (mem_row.2 ⟨j, rfl⟩) h
    · exact bot_le
  · refine nextBelow_le fun v hv hlt => ?_
    obtain ⟨j, rfl⟩ := mem_row.1 hv
    have := Finset.le_sup (f := fun j => if x (ix2 i j) < t then (x (ix2 i j) : EReal) else ⊥) (Finset.mem_univ j)
    simpa [hlt] using this

theorem lower_apply (t : FVec Ideal S1024x1 .f32) (i : Fin 1024) :
    lower hb hr x t (ix2 i 0) = nextBelow (row x i) (t (ix2 i 0)) := by
  unfold lower
  rw [shapeCast_apply _ _ (ix2 i 0) (ix1 i) (by rw [Shape.rowMajor_val_one, Shape.rowMajor_val_two]; simp)]
  refine (Ideal.multiReduction_maximumf_single _ _ hr _ _ _).trans ?_
  have hbot : FloatOps.ofBits (F := Ideal) .f32 0xFF800000#32 = (⊥ : EReal) := negInf
  rw [hbot, ← fold_below]
  refine congrArg (fun f => Finset.fold max ⊥ f Finset.univ) (funext fun j : Fin n => ?_)
  have hl : hr.lift (ix1 i) j = ix2 i j := by
    funext a; fin_cases a <;> rfl
  have ht : broadcastTo ⟨2, ![1024, n]⟩ t hb (ix2 i j) = t (ix2 i 0) :=
    broadcastTo_apply _ hb (ix2 i j) (ix2 i 0) (fun a => by fin_cases a <;> simp)
  change Scalar.select (Ideal.cmp .olt (x (hr.lift (ix1 i) j)) (broadcastTo ⟨2, ![1024, n]⟩ t hb (hr.lift (ix1 i) j)))
    (x (hr.lift (ix1 i) j) : EReal) ⊥ = _
  rw [hl, ht]
  change Scalar.select (BitVec.ofBool (decide ((x (ix2 i j) : EReal) < t (ix2 i 0)))) (x (ix2 i j) : EReal) ⊥ = _
  by_cases h : (x (ix2 i j) : EReal) < t (ix2 i 0)
  · rw [if_pos h, decide_eq_true h]; rfl
  · rw [if_neg h, decide_eq_false h]; rfl

theorem column_apply (i : Fin 1024) : ∀ k, column hb hr x k (ix2 i 0) = descend (row x i) (k + 1)
  | 0 => by
    refine (lower_apply hb hr x _ i).trans ?_
    change nextBelow _ (Ideal.ofBits .f32 0x7F800000#32) = nextBelow _ ⊤
    rw [posInf]
  | k + 1 => by
    refine (lower_apply hb hr x _ i).trans ?_
    rw [column_apply i k]; rfl

/-- Entry `(i, k)` of the selection: the row's (k+1)-th value of the descent. -/
theorem select32_apply (i : Fin 1024) (k : Fin 32) :
    select32 hb hr x (ix2 i k) = descend (row x i) (k.val + 1) := by
  refine (concatenate_apply_piece (t := S1024x32) 1 _ _ (ix2 i k) k.val (by simp) S1024x1 (column hb hr x k.val)
    (by simp) rfl k.val ?_ (ix2 i 0) (fun b hb => ?_) (by simp)).trans (column_apply hb hr x i k.val)
  · simp [List.map_take, List.map_map, Function.comp_def]
    revert k; decide
  · fin_cases b
    · rfl
    · exact absurd rfl hb

end Selection

/-! ## What a device sends, and what it leaves -/

theorem own32_apply (x : FVec Ideal S1024x8192 .f32) (i : Fin 1024) (k : Fin 32) :
    own32 x (ix2 i k) = descend (row x i) (k.val + 1) := by
  unfold own32
  rw [shapeCast_self]
  exact select32_apply _ _ x i k

/-- A row of two arrays side by side holds the values of both rows. -/
theorem row_pair (a b : FVec Ideal S1024x32 .f32) (i : Fin 1024) :
    row (concatenate S1024x64 1 [⟨S1024x32, a⟩, ⟨S1024x32, b⟩] concatenates_S1024x32_S1024x32_S1024x64_d1) i
      = row a i ∪ row b i := by
  have left : ∀ j : Fin 32, concatenate S1024x64 1 [⟨S1024x32, a⟩, ⟨S1024x32, b⟩] concatenates_S1024x32_S1024x32_S1024x64_d1
      (ix2 i ⟨j.val, by omega⟩) = a (ix2 i j) := fun j =>
    concatenate_pair_apply_left (t := S1024x64) 1 a b _ _ rfl (ix2 i j) (fun c => by fin_cases c <;> rfl)
  have right : ∀ j : Fin 32, concatenate S1024x64 1 [⟨S1024x32, a⟩, ⟨S1024x32, b⟩] concatenates_S1024x32_S1024x32_S1024x64_d1
      (ix2 i ⟨j.val + 32, by omega⟩) = b (ix2 i j) := fun j =>
    concatenate_pair_apply_right (t := S1024x64) 1 a b _ _ rfl rfl (ix2 i j)
      (fun c hc => by
        fin_cases c
        · rfl
        · exact absurd rfl hc) rfl
  ext v
  rw [Finset.mem_union, mem_row, mem_row, mem_row]
  constructor
  · rintro ⟨j, rfl⟩
    by_cases h : j.val < 32
    · exact .inl ⟨⟨j.val, h⟩, (left ⟨j.val, h⟩).symm⟩
    · refine .inr ⟨⟨j.val - 32, by omega⟩, (right ⟨j.val - 32, by omega⟩).symm.trans ?_⟩
      congr 2
      exact Fin.ext (by simp; omega)
  · rintro (⟨j, rfl⟩ | ⟨j, rfl⟩)
    · exact ⟨_, left j⟩
    · exact ⟨_, right j⟩

/-- The selection from two devices' selections is the selection from both blocks: entry `(i, k)` is the (k+1)-th value of
    the descent through the two rows together. -/
theorem both32_apply (x y : FVec Ideal S1024x8192 .f32) (i : Fin 1024) (k : Fin 32) :
    both32 (own32 x) (shapeCast S1024x32 (own32 y) shapeCasts_S1024x32_S1024x32) (ix2 i k)
      = descend (row x i ∪ row y i) (k.val + 1) := by
  unfold both32
  rw [shapeCast_self, select32_apply, row_pair]
  have mine : ∀ (z : FVec Ideal S1024x8192 .f32), ∀ j < 32, descend (row z i) (j + 1) ∈ row (own32 z) i := fun z j hj =>
    mem_row.2 ⟨⟨j, hj⟩, own32_apply z i ⟨j, hj⟩⟩
  have kept : ∀ (z : FVec Ideal S1024x8192 .f32) v, v ∈ row (own32 z) i → v = ⊥ ∨ v ∈ row z i := by
    intro z v hv
    obtain ⟨j, rfl⟩ := mem_row.1 hv
    rw [own32_apply]
    exact descend_mem j.val
  refine descend_merge (n := 32) (fun j hj => Finset.mem_union_left _ (mine x j hj))
    (fun j hj => Finset.mem_union_right _ (mine y j hj)) (fun v hv => ?_) _ (by omega)
  rcases Finset.mem_union.1 hv with h | h
  · exact (kept x v h).imp id (Finset.mem_union_left _)
  · exact (kept y v h).imp id (Finset.mem_union_right _)

end Cert.TopK

end
-- ==== Proof.Sorted.lean ====
/- The plain program's 32 values, read one at a time at the ideal values: row `i`'s positions in the order its sort puts
   them, and the row's values there, which fall. The mask's text begins with the same operations, so it is read here too:
   where it is set, the values up to that one are told apart, or the value is -inf. -/
module

public import proofs.«01_k».proof.On_told_apart
public import Idealize.ShloMosaic.PureOps.Ideal.Laws
public import Idealize.ShloMosaic.Lib.ValueIdx
public import Idealize.ShloMosaic.Lib.SortFacts
public import Idealize.ShloMosaic.Lib.Pipeline.Value

@[expose] public section

noncomputable section

namespace Cert.TopK.Plain

open Cert.On_told_apart Cert.On_told_apart.Facts
open Idealize.ShloMosaic Idealize.ShloMosaic.ValueIdx

variable [Facts]

/-! ## The sort -/

/-- The sort's test at the ideal values: the first key is the smaller. -/
theorem comparator_apply (a b : EReal) (u v : BitVec 32) :
    comparator_f32_i32_d1 (F := Ideal) (a, u) (b, v) = BitVec.ofBool (decide (a < b)) := by
  have tidy : ∀ z : EReal, Scalar.select (FloatOps.cmpf (F := Ideal) (φ := .f32) .une z z)
      (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have h1 : FloatOps.cmpf (F := Ideal) (φ := .f32) .une z z = 0#1 := by
      change BitVec.ofBool (decide (z ≠ z)) = 0#1
      simp
    rw [h1, select_zero]
    change Scalar.select (BitVec.ofBool (decide (z = Ideal.ofBits .f32 0x00000000#32))) (Ideal.ofBits .f32 0x00000000#32) z = z
    by_cases h : z = Ideal.ofBits .f32 0x00000000#32
    · rw [decide_eq_true h]; exact h.symm
    · rw [decide_eq_false h]; rfl
  unfold comparator_f32_i32_d1
  simp only [tidy]
  rfl

variable (x : FVec Ideal S1024x16384 .f32) (i : Fin 1024)

/-- Position `k`'s value is greater than position `k'`'s. -/
def greater (k k' : Fin 16384) : Bool := decide ((x (ix2 i k') : EReal) < x (ix2 i k))

/-- Row `i`'s positions in sorted order. -/
def order : Fin 16384 → Fin 16384 := sortedFrom (greater x i)

/-- Row `i`'s values in sorted order. -/
def sorted (k : Fin 16384) : EReal := x (ix2 i (order x i k))

theorem sorted_falls {k k' : Fin 16384} (h : k ≤ k') : sorted x i k' ≤ sorted x i k := by
  rcases h.eq_or_lt with rfl | h
  · exact le_rfl
  have := sortedFrom_noInversion (greater x i) (greater x i)
    (fun a b h => decide_eq_false (not_lt.2 (of_decide_eq_true h).le)) (fun _ _ h => h)
    (fun a b c h h' => decide_eq_false (not_lt.2 ((not_lt.1 (of_decide_eq_false h)).trans (not_lt.1 (of_decide_eq_false h')))))
    k k' h
  exact not_lt.1 (of_decide_eq_false this)

theorem sorted_all (v : EReal) : (∃ k, sorted x i k = v) ↔ ∃ j, (x (ix2 i j) : EReal) = v := by
  constructor
  · rintro ⟨k, h⟩; exact ⟨_, h⟩
  · rintro ⟨j, h⟩
    obtain ⟨k, rfl⟩ := sortedFrom_surjective (greater x i) j
    exact ⟨k, h⟩

theorem along_ix2 (k k' : Fin 16384) : (ix2 i k : S1024x16384.Idx).along 1 k' = ix2 i k' := by
  funext a
  fin_cases a
  · exact Function.update_of_ne (by decide) _ _
  · exact Function.update_self _ _ _

/-- The argsort's entry `(i, k)` is the position whose value comes k-th. -/
theorem argsort_apply (k : Fin 16384) :
    fn_argsort (F := Ideal) (Host.negf x) (ix2 i k) = BitVec.ofNat 32 (order x i k).val := by
  have hg : (fun a b : Fin 16384 => comparator_f32_i32_d1 (F := Ideal)
      (Host.negf x ((ix2 i k : S1024x16384.Idx).along 1 a), iotaInDim S1024x16384 32 1 ((ix2 i k : S1024x16384.Idx).along 1 a))
      (Host.negf x ((ix2 i k : S1024x16384.Idx).along 1 b), iotaInDim S1024x16384 32 1 ((ix2 i k : S1024x16384.Idx).along 1 b)) == 1#1)
      = greater x i := by
    funext a b
    rw [comparator_apply, along_ix2, along_ix2]
    have hn : ∀ j : S1024x16384.Idx, (Host.negf x j : EReal) = -(x j : EReal) := fun _ => rfl
    rw [hn, hn]
    unfold greater
    by_cases h : (x (ix2 i b) : EReal) < x (ix2 i a)
    · rw [decide_eq_true h, decide_eq_true (EReal.neg_lt_neg_iff.2 h)]; rfl
    · rw [decide_eq_false h, decide_eq_false (fun h' => h (EReal.neg_lt_neg_iff.1 h'))]; rfl
  refine (congrArg (fun R : Fin 16384 → Fin 16384 → Bool =>
    iotaInDim S1024x16384 32 1 ((ix2 i k : S1024x16384.Idx).along 1 (sortedFrom R k))) hg).trans ?_
  change iotaInDim S1024x16384 32 1 ((ix2 i k : S1024x16384.Idx).along 1 (order x i k)) = _
  rw [along_ix2]
  rfl

/-! ## Taking a row's entries at given positions -/

theorem and_all {ι : Type} (s : Finset ι) (f : ι → BitVec 1) : s.fold IntOp.andi 1#1 f = 1#1 ↔ ∀ k ∈ s, f k = 1#1 := by
  classical
  induction s using Finset.induction_on with
  | empty => simp
  | insert a s ha ih =>
    rw [Finset.fold_insert ha, Finset.forall_mem_insert, ← ih]
    generalize f a = u
    generalize s.fold IntOp.andi 1#1 f = v
    revert u v; decide

theorem word_toInt (p : Fin 16384) : (BitVec.ofNat 32 p.val).toInt = p.val := by
  have hp := p.isLt
  rw [BitVec.toInt_ofNat', Int.bmod_eq_of_le (by omega) (by omega)]

/-- The gather's dimension numbers: one entry of each row, at the row's own position words. -/
abbrev dims : GatherDims S1024x16384 S1024x32x1 S1024x32 := gather_S1024x16384_S1024x32x1_S1024x32_n_1_0_0_1_2_11

/-- The gather of single entries of a row, at a position within it. -/
theorem gather_apply (idx : IVec S1024x32x1 32) (k : Fin 32) (p : Fin 16384)
    (h : idx (ix3 i k 0) = BitVec.ofNat 32 p.val) : Host.gather dims x idx (ix2 i k) = x (ix2 i p) := by
  unfold Host.gather
  refine congrArg x (funext fun a => Fin.ext ?_)
  change dims.start (ix2 i k) idx a + dims.batchCoord (ix2 i k) a + dims.offCoord (ix2 i k) a = _
  have h01 : a = 0 ∨ a = 1 := by revert a; decide
  rcases h01 with rfl | rfl
  · have h0 : (0 : Fin 2) ∈ dims.operandBatchingDims := List.mem_singleton.2 rfl
    rw [dims.start_batching _ _ _ h0, dims.offCoord_eq_zero _ _ (fun h => ((dims.mem_sKept _).1 h).2 h0)]
    simp only [Nat.zero_add, Nat.add_zero]
    unfold GatherDims.batchCoord
    rw [dif_pos h0]
    rfl
  · have h1 : (1 : Fin 2) ∈ dims.startIndexMap := List.mem_singleton.2 rfl
    rw [dims.batchCoord_eq_zero _ _ (fun h => absurd (List.mem_singleton.1 h) (by decide)),
      dims.offCoord_eq_zero _ _ (fun h => ((dims.mem_sKept _).1 h).1 (List.mem_singleton.2 rfl))]
    simp only [Nat.add_zero]
    unfold GatherDims.start
    rw [dif_pos h1]
    have hs : ∀ n, dims.siIdx (ix2 i k) n = ix3 i k 0 := by
      intro n
      funext b; refine Fin.ext ?_
      match b with
      | ⟨0, _⟩ => rfl
      | ⟨1, _⟩ => rfl
      | ⟨2, _⟩ => exact Nat.lt_one_iff.1 (Fin.isLt _)
    rw [hs, h, word_toInt]
    have hp := p.isLt
    change min (p.val : Int).toNat (16384 - 1) = p.val
    omega

/-- A position's word passes the bounds tests. -/
theorem word_within (p : Fin 16384) :
    IntOp.cmpi .slt (BitVec.ofNat 32 p.val) 0#32 = 0#1 ∧ IntOp.cmpi .sge (BitVec.ofNat 32 p.val) 0#32 = 1#1
      ∧ IntOp.cmpi .sle (BitVec.ofNat 32 p.val) 16383#32 = 1#1 := by
  have hp := p.isLt
  have hi := word_toInt p
  refine ⟨?_, ?_, ?_⟩
  · change BitVec.ofBool (BitVec.slt _ _) = _
    rw [BitVec.slt, hi, decide_eq_false (by simp)]; rfl
  · change BitVec.ofBool (BitVec.sle _ _) = _
    rw [BitVec.sle, hi, decide_eq_true (by simp)]; rfl
  · change BitVec.ofBool (BitVec.sle _ _) = _
    rw [BitVec.sle, hi, decide_eq_true (by simp; omega)]; rfl

/-- The position words, a negative one counted from the row's end, as the gather takes them. -/
def words (idx : IVec S1024x32 32) : IVec S1024x32x1 32 :=
  shapeCast S1024x32x1
    (select (cmpi .slt idx (broadcastInDim S1024x32 ![] bcast_S_S1024x32 (constantI S_ 32 0#32)))
      (addi idx (broadcastInDim S1024x32 ![] bcast_S_S1024x32 (constantI S_ 32 16384#32))) idx)
    shapeCasts_S1024x32_S1024x32x1

/-- Which of them lie within the row. -/
def inside (w : IVec S1024x32x1 32) : IVec S1024x32 1 :=
  Host.reduce IntOp.andi
    (andi (cmpi .sge w (broadcastInDim S1024x32x1 ![] bcast_S_S1024x32x1 (constantI S_ 32 0#32)))
      (cmpi .sle w (broadcastInDim S1024x32x1 ![0, 1, 2] bcast_S1x1x1_S1024x32x1_0_1_2
        (broadcastInDim S1x1x1 ![2] bcast_S1_S1x1x1_2 (constantI S1 32 16383#32)))))
    (constantI S_ 1 1#1) reducesTo_S1024x32x1_S1024x32_d2 h_S_

theorem take_eq (idx : IVec S1024x32 32) : fn_take_along_axis (F := Ideal) x idx
    = select (inside (words idx)) (Host.gather dims x (words idx))
        (broadcastInDim S1024x32 ![] bcast_S_S1024x32 (constant S_ .f32 0x7FC00000#32)) := rfl

theorem words_apply (idx : IVec S1024x32 32) (k : Fin 32) (p : Fin 16384) (h : idx (ix2 i k) = BitVec.ofNat 32 p.val) :
    words idx (ix3 i k 0) = BitVec.ofNat 32 p.val := by
  unfold words
  rw [shapeCast_apply _ _ _ (ix2 i k) (by rw [Shape.rowMajor_val_two, Shape.rowMajor_val_three]; simp), select_apply]
  change Scalar.select (IntOp.cmpi .slt (idx (ix2 i k)) 0#32) _ _ = _
  rw [h, (word_within p).1, select_zero]

theorem inside_apply (w : IVec S1024x32x1 32) (k : Fin 32) (p : Fin 16384) (h : w (ix3 i k 0) = BitVec.ofNat 32 p.val) :
    inside w (ix2 i k) = 1#1 := by
  unfold inside
  have hr : S1024x32x1.Reduces [2] S1024x32 := by decide
  rw [Host.reduce_eq_fold_single IntOp.andi _ _ _ hr _ (ix2 i k)]
  refine (and_all _ _).2 fun (q : Fin 1) _ => ?_
  have hl : hr.lift (ix2 i k) q = ix3 i k 0 := by
    funext a
    match a with
    | ⟨0, _⟩ => rfl
    | ⟨1, _⟩ => rfl
    | ⟨2, _⟩ => exact Subsingleton.elim (α := Fin 1) _ _
  change IntOp.andi (IntOp.cmpi .sge (w (hr.lift (ix2 i k) q)) 0#32) (IntOp.cmpi .sle (w (hr.lift (ix2 i k) q)) 16383#32) = 1#1
  rw [hl, h, (word_within p).2.1, (word_within p).2.2]
  rfl

theorem take_apply (idx : IVec S1024x32 32) (k : Fin 32) (p : Fin 16384) (h : idx (ix2 i k) = BitVec.ofNat 32 p.val) :
    fn_take_along_axis (F := Ideal) x idx (ix2 i k) = x (ix2 i p) := by
  have hw := words_apply i idx k p h
  rw [take_eq, select_apply, inside_apply i _ k p hw, select_one]
  exact gather_apply x i _ k p hw

/-! ## The values -/

/-- The 32 values of each row. -/
def top : FVec Ideal S1024x32 .f32 :=
  fn_take_along_axis (F := Ideal) x
    (extractStridedSlice S1024x32 ![0, 0] (fn_argsort (F := Ideal) (Host.negf x)) slices_S1024x16384_S1024x32_0_0)

theorem top_apply (k : Fin 32) : top x (ix2 i k) = sorted x i ⟨k.val, by omega⟩ := by
  refine take_apply x i _ k (order x i ⟨k.val, by omega⟩) ?_
  rw [← argsort_apply]
  exact extractStridedSlice_apply _ _ _ _ _ (fun a => by fin_cases a <;> simp)

/-! ## Where the mask is set -/

/-- Which values are below the one before them, the first below +inf. -/
def falls : IVec S1024x32 1 :=
  cmpf .olt (top x)
    (concatenate S1024x32 1
      [⟨S1024x1, broadcastInDim S1024x1 ![] bcast_S_S1024x1 (constant (F := Ideal) S_ .f32 0x7F800000#32)⟩,
        ⟨S1024x31, extractStridedSlice S1024x31 ![0, 0] (top x) slices_S1024x32_S1024x31_0_0⟩]
      concatenates_S1024x1_S1024x31_S1024x32_d1)

/-- Which of two positions is the later. -/
def later : IVec S1x32x32 1 :=
  cmpi .sgt (broadcastInDim S1x32x32 ![0, 1, 2] bcast_S1x1x32_S1x32x32_0_1_2 (broadcastInDim S1x1x32 ![2] bcast_S32_S1x1x32_2 (iotaInDim S32 32 0)))
    (broadcastInDim S1x32x32 ![0, 1, 2] bcast_S1x32x1_S1x32x32_0_1_2 (broadcastInDim S1x32x1 ![1] bcast_S32_S1x32x1_1 (iotaInDim S32 32 0)))

/-- Per entry `(i, k)` and position `j`: value `j` falls, or comes later. -/
def holds : IVec S1024x32x32 1 :=
  ori (broadcastInDim S1024x32x32 ![0, 1, 2] bcast_S1024x1x32_S1024x32x32_0_1_2
      (broadcastInDim S1024x1x32 ![0, 2] bcast_S1024x32_S1024x1x32_0_2 (falls x)))
    (broadcastInDim S1024x32x32 ![0, 1, 2] bcast_S1x32x32_S1024x32x32_0_1_2 later)

theorem mask_eq : fn (F := Ideal) x
    = ori (Host.reduce IntOp.andi (holds x) (constantI S_ 1 1#1) reducesTo_S1024x32x32_S1024x32_d2 h_S_)
        (cmpf .oeq (top x) (broadcastInDim S1024x32 ![] bcast_S_S1024x32 (constant S_ .f32 0xFF800000#32))) := rfl

theorem or_one (u v : BitVec 1) : IntOp.ori u v = 1#1 ↔ u = 1#1 ∨ v = 1#1 := by revert u v; decide

theorem falls_apply (k : Fin 32) (h : falls x (ix2 i k) = 1#1) :
    sorted x i ⟨k.val, by omega⟩ < if hk : k.val = 0 then ⊤ else sorted x i ⟨k.val - 1, by omega⟩ := by
  have h' : BitVec.ofBool (decide ((top x (ix2 i k) : EReal) < (concatenate S1024x32 1
      [⟨S1024x1, broadcastInDim S1024x1 ![] bcast_S_S1024x1 (constant (F := Ideal) S_ .f32 0x7F800000#32)⟩,
        ⟨S1024x31, extractStridedSlice S1024x31 ![0, 0] (top x) slices_S1024x32_S1024x31_0_0⟩]
      concatenates_S1024x1_S1024x31_S1024x32_d1 (ix2 i k) : EReal))) = 1#1 := h
  have hlt := of_decide_eq_true (BitVec.ofBool_eq_iff_eq.1 (h'.trans (rfl : 1#1 = BitVec.ofBool true)))
  rw [top_apply] at hlt
  refine hlt.trans_eq ?_
  split
  · next hk =>
    rw [concatenate_pair_apply_left (t := S1024x32) (s₁ := S1024x1) (s₂ := S1024x31) 1 _ _ _ (ix2 i k) rfl (ix2 i 0) (fun b => by
      fin_cases b
      · rfl
      · exact hk.symm)]
    change Ideal.ofBits .f32 0x7F800000#32 = _
    simp [Ideal.ofBits, Ideal.ieee]
  · next hk =>
    rw [concatenate_pair_apply_right (t := S1024x32) (s₁ := S1024x1) (s₂ := S1024x31) 1 _ _ _ (ix2 i k) rfl rfl (ix2 i ⟨k.val - 1, by omega⟩)
      (fun b hb => by
        fin_cases b
        · rfl
        · exact absurd rfl hb) (by change k.val - 1 + 1 = k.val; omega),
      extractStridedSlice_apply _ _ _ _ (ix2 i ⟨k.val - 1, by omega⟩ : S1024x32.Idx) (fun a => by fin_cases a <;> simp), top_apply]

theorem holds_apply (k j : Fin 32) : holds x (ix3 i k j)
    = IntOp.ori (falls x (ix2 i j)) (IntOp.cmpi .sgt (BitVec.ofNat 32 j.val) (BitVec.ofNat 32 k.val)) := by
  have e1 : broadcastInDim S1024x32x32 ![0, 1, 2] bcast_S1024x1x32_S1024x32x32_0_1_2
      (broadcastInDim S1024x1x32 ![0, 2] bcast_S1024x32_S1024x1x32_0_2 (falls x)) (ix3 i k j) = falls x (ix2 i j) := by
    rw [broadcastInDim_apply _ _ _ _ (ix3 i 0 j : S1024x1x32.Idx) (fun a => by fin_cases a <;> rfl),
      broadcastInDim_apply _ _ _ _ (ix2 i j : S1024x32.Idx) (fun a => by fin_cases a <;> rfl)]
  have e2 : broadcastInDim S1024x32x32 ![0, 1, 2] bcast_S1x32x32_S1024x32x32_0_1_2 later (ix3 i k j) = later (ix3 0 k j) :=
    broadcastInDim_apply _ _ _ _ (ix3 0 k j : S1x32x32.Idx) (fun a => by fin_cases a <;> rfl)
  unfold holds
  change IntOp.ori _ _ = _
  rw [e1, e2]
  rfl

theorem not_later (j k : Fin 32) (h : j ≤ k) :
    IntOp.cmpi .sgt (BitVec.ofNat 32 j.val) (BitVec.ofNat 32 k.val) ≠ 1#1 := by
  have hj := word_toInt ⟨j.val, by omega⟩
  have hk := word_toInt ⟨k.val, by omega⟩
  change BitVec.ofBool (BitVec.slt _ _) ≠ _
  rw [BitVec.slt, hj, hk, decide_eq_false (by simpa using h)]
  decide

theorem bottom_apply (z : FVec Ideal S1024x32 .f32) (j : S1024x32.Idx)
    (h : cmpf .oeq z (broadcastInDim S1024x32 ![] bcast_S_S1024x32 (constant S_ .f32 0xFF800000#32)) j = 1#1) :
    (z j : EReal) = ⊥ := by
  have h' : BitVec.ofBool (decide ((z j : EReal) = Ideal.ofBits .f32 0xFF800000#32)) = 1#1 := h
  refine (of_decide_eq_true (BitVec.ofBool_eq_iff_eq.1 (h'.trans (rfl : 1#1 = BitVec.ofBool true)))).trans ?_
  simp [Ideal.ofBits, Ideal.ieee]

/-- Where the mask is set, the values up to that one are told apart and below +inf, or that one is -inf. -/
theorem mask_apply (k : Fin 32) (h : fn (F := Ideal) x (ix2 i k) = 1#1) :
    (∀ j : Fin 32, j ≤ k → sorted x i ⟨j.val, by omega⟩ < if hj : j.val = 0 then ⊤ else sorted x i ⟨j.val - 1, by omega⟩)
      ∨ sorted x i ⟨k.val, by omega⟩ = ⊥ := by
  rw [mask_eq] at h
  rcases (or_one _ _).1 h with h | h
  · left
    intro j hj
    have hr : S1024x32x32.Reduces [2] S1024x32 := by decide
    rw [Host.reduce_eq_fold_single IntOp.andi _ _ _ hr _ (ix2 i k)] at h
    have hjk : holds x (hr.lift (ix2 i k) j) = 1#1 := (and_all _ _).1 h j (Finset.mem_univ _)
    have hl : hr.lift (ix2 i k) j = ix3 i k j := by
      funext a
      match a with
      | ⟨0, _⟩ => rfl
      | ⟨1, _⟩ => rfl
      | ⟨2, _⟩ => rfl
    rw [hl, holds_apply] at hjk
    rcases (or_one _ _).1 hjk with h' | h'
    · exact falls_apply x i j h'
    · exact absurd h' (not_later j k hj)
  · right
    rw [← top_apply]
    exact bottom_apply (top x) (ix2 i k) h

end Cert.TopK.Plain

end
-- ==== Proof.Value.lean ====
/- What the kernel leaves on every device, at the ideal values, against the plain program's result: equal at every entry
   the mask sets. -/
module

public import proofs.«01_k».proof.Proof.Launch
public import proofs.«01_k».proof.Proof.Selected
public import proofs.«01_k».proof.Proof.Sorted
public import Idealize.ShloMosaic.Lib.Layout

@[expose] public section

noncomputable section

namespace Cert.TopK

open Cert.KernelIdeal Cert.KernelIdeal.Gen
open Idealize.ShloMosaic Idealize.ShloMosaic.ValueIdx Idealize.ShloMosaic.TcCoe Idealize.SL.Sem

/-! ## The arrays after the run -/

section Arrays

variable {F : FTy → Type} [FloatOps F]
variable (m : (ℓ : Loc nD τ sig) → Buf (Elt F) ℓ) (ρ : Dev nD → PrngReg) (c : Dev nD)

theorem blockAt_eq : blockAt m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array's one block is the whole array, written back once, from what the body left. -/
theorem final_out : final m ρ c (1 : Fin 2) = outAt m ρ c := by
  have h : (win0_1.blk (0 : Fin 1)).view.read (Elt F) (final m ρ c (1 : Fin 2)) = outAt m ρ c := by
    unfold final
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  rw [← h]
  exact (Memref.read_access_unit_zero (Elt F) main_v1 hz (fun a => by fin_cases a <;> decide) _).symm

end Arrays

/-! ## The two blocks of a row -/

/-- The whole input's shape. -/
abbrev Whole : Shape := ⟨2, ![1024, 16384]⟩

/-- The block device `c`'s place in the mesh names: columns are cut in two, rows are not cut. -/
abbrev place (c : Dev nD) : (b : Fin 2) → Fin (Layout.cutSize [2, 4, 4] ((![[], [0]] : Fin 2 → List Nat) b)) :=
  Layout.meshBlock [2, 4, 4] ![[], [0]] c

theorem place_row (c : Dev nD) : (place c 0).val = 0 := rfl
theorem place_column (c : Dev nD) : (place c 1).val = c.val / 16 := by revert c; decide

/-- Device `c`'s block of the whole input. -/
abbrev part (x : Whole.Idx → EReal) (c : Dev nD) : S1024x8192.Idx → EReal :=
  Layout.blockN ⟨2, ![1024, 8192]⟩ ⟨2, ![1024, 16384]⟩ (Layout.meshBlock [2, 4, 4] ![[], [0]] c) x

theorem part_apply (x : Whole.Idx → EReal) (c : Dev nD) (i : Fin 1024) (j : Fin 8192) :
    part x c (ix2 i j) = x (ix2 i ⟨c.val / 16 * 8192 + j.val, by have : c.val < 32 := c.isLt; omega⟩) := by
  unfold part
  rw [Layout.blockN_apply]
  refine congrArg x (funext fun a => Fin.ext ?_)
  match a with
  | ⟨0, _⟩ =>
    refine (Layout.TilesN.idx_val (S := S1024x8192) (T := Whole) (by decide) (place c) (ix2 i j) (0 : Fin 2)).trans ?_
    change (place c 0).val * _ + i.val = i.val
    rw [place_row, Nat.zero_mul, Nat.zero_add]
  | ⟨1, _⟩ =>
    refine (Layout.TilesN.idx_val (S := S1024x8192) (T := Whole) (by decide) (place c) (ix2 i j) (1 : Fin 2)).trans ?_
    change (place c 1).val * 8192 + j.val = c.val / 16 * 8192 + j.val
    rw [place_column]

theorem mate_half (c : Dev nD) : (mate c).val / 16 = 1 - c.val / 16 := by revert c; decide

/-- A device's row and its partner's hold, together, the values of the whole row. -/
theorem mem_both (x : Whole.Idx → EReal) (c : Dev nD) (i : Fin 1024) (v : EReal) :
    v ∈ row (part x c) i ∪ row (part x (mate c)) i ↔ ∃ j, x (ix2 i j) = v := by
  have hc : c.val < 32 := c.isLt
  have hm := mate_half c
  rw [Finset.mem_union, mem_row, mem_row]
  constructor
  · rintro (⟨j, h⟩ | ⟨j, h⟩) <;> exact ⟨_, (part_apply x _ i j).symm.trans h⟩
  · rintro ⟨j, h⟩
    have hj := j.isLt
    by_cases hd : j.val / 8192 = c.val / 16
    · refine .inl ⟨⟨j.val % 8192, by omega⟩, (part_apply x c i _).trans (Eq.trans ?_ h)⟩
      exact congrArg (fun q => x (ix2 i q)) (Fin.ext (by simp only; omega))
    · refine .inr ⟨⟨j.val % 8192, by omega⟩, (part_apply x (mate c) i _).trans (Eq.trans ?_ h)⟩
      exact congrArg (fun q => x (ix2 i q)) (Fin.ext (by simp only [hm]; omega))

/-! ## The two results -/

variable [Cert.On_told_apart.Facts]

/-- The sorted values of row `i`, as a sequence. -/
def sequence_of (x : Whole.Idx → EReal) (i : Fin 1024) (k : ℕ) : EReal :=
  if h : k < 16384 then Plain.sorted x i ⟨k, h⟩ else ⊥

theorem sequence_eq (x : Whole.Idx → EReal) (i : Fin 1024) {k : ℕ} (h : k < 16384) :
    sequence_of x i k = Plain.sorted x i ⟨k, h⟩ := dif_pos h

/-- Where the mask is set, the descent through the two rows together reaches the plain program's value. -/
theorem descend_eq_top (x : Whole.Idx → EReal) (c : Dev nD) (i : Fin 1024) (k : Fin 32)
    (h : Cert.On_told_apart.fn (F := Ideal) x (ix2 i k) = 1#1) :
    descend (row (part x c) i ∪ row (part x (mate c)) i) (k.val + 1) = Plain.top x (ix2 i k) := by
  have hk : k.val < 16384 := by omega
  have hv : ∀ a b, a ≤ b → b < 16384 → sequence_of x i b ≤ sequence_of x i a := by
    intro a b hab hb
    rw [sequence_eq x i hb, sequence_eq x i (by omega : a < 16384)]
    exact Plain.sorted_falls x i hab
  have hS : ∀ v, v ∈ row (part x c) i ∪ row (part x (mate c)) i ↔ ∃ j < 16384, sequence_of x i j = v := by
    intro v
    rw [mem_both]
    refine (Plain.sorted_all x i v).symm.trans ⟨fun ⟨j, e⟩ => ⟨j.val, j.isLt, ?_⟩, fun ⟨j, hj, e⟩ => ⟨⟨j, hj⟩, ?_⟩⟩
    · rw [sequence_eq x i j.isLt]; exact e
    · rw [sequence_eq x i hj] at e; exact e
  rw [Plain.top_apply, ← sequence_eq x i hk]
  rcases Plain.mask_apply x i k h with h | h
  · refine descend_eq_sorted _ hv hS k.val hk fun j hj => ?_
    have hj' := h ⟨j, by omega⟩ hj
    rw [sequence_eq x i (by omega : j < 16384)]
    refine hj'.trans_eq ?_
    by_cases h0 : j = 0
    · rw [dif_pos h0, if_pos h0]
    · rw [dif_neg h0, if_neg h0, sequence_eq x i (by omega : j - 1 < 16384)]
  · refine descend_eq_bot _ hv hS k.val hk ?_
    rw [sequence_eq x i hk]; exact h

/-- What a device leaves, where the mask is set: the plain program's result. -/
theorem final_eq_top (m : (ℓ : Loc nD τ sig) → Buf (Elt Ideal) ℓ) (ρ : Dev nD → PrngReg) (x : Whole.Idx → EReal)
    (hx : ∀ c : Dev nD, m ((c : Thread nD τ).loc main_arg0) = part x c) (c : Dev nD) (i : S1024x32.Idx)
    (h : Cert.On_told_apart.fn (F := Ideal) x i = 1#1) : final m ρ c (1 : Fin 2) i = Plain.top x i := by
  rw [eq_ix2 i] at h ⊢
  rw [final_out]
  unfold outAt sentAt
  rw [blockAt_eq, blockAt_eq, hx c, hx (mate c)]
  exact (both32_apply (part x c) (part x (mate c)) (i 0) (i 1)).trans (descend_eq_top x c (i 0) (i 1) h)

end Cert.TopK

end
-- ==== Proof.lean ====
/- The certificate's claims: every program ends from any memory with its arguments unchanged and its counters at zero, and
   at the ideal values every device's result is the plain program's wherever the mask is set. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.TopK

/-- The mask's shape facts. -/
theorem mask_facts : Cert.On_told_apart.Facts where
  slices_S1024x16384_S1024x32_0_0 := by decide
  bcast_S_S1024x32 := by decide
  shapeCasts_S1024x32_S1024x32x1 := by decide
  bcast_S_S1024x32x1 := by decide
  bcast_S1_S1x1x1_2 := by decide
  bcast_S1x1x1_S1024x32x1_0_1_2 := by decide
  reducesTo_S1024x32x1_S1024x32_d2 := by decide
  h_S_ := by decide
  bcast_S_S1024x1 := by decide
  slices_S1024x32_S1024x31_0_0 := by decide
  concatenates_S1024x1_S1024x31_S1024x32_d1 := by decide
  bcast_S32_S1x1x32_2 := by decide
  bcast_S32_S1x32x1_1 := by decide
  bcast_S1x1x32_S1x32x32_0_1_2 := by decide
  bcast_S1x32x1_S1x32x32_0_1_2 := by decide
  bcast_S1024x32_S1024x1x32_0_2 := by decide
  bcast_S1024x1x32_S1024x32x32_0_1_2 := by decide
  bcast_S1x32x32_S1024x32x32_0_1_2 := by decide
  reducesTo_S1024x32x32_S1024x32_d2 := by decide
  gather_S1024x16384_S1024x32x1_S1024x32_n_1_0_0_1_2_11_wf := by decide

/-- The two kernels' body tables agree, label by label. -/
theorem same_bodies {F : FTy → Type} [FloatOps F] : Cert.Kernel.defs₀ (F := F) = Cert.KernelIdeal.defs₀ (F := F) := by
  refine congrArg Defs.onTc ?_
  funext l a
  match l, a with
  | 0, (t, s) => rfl
  | ⟨_ + 1, h⟩, _ => exact absurd h (by simp)

/-- So do the tables with the pipeline's own labels. -/
theorem same_defs {F : FTy → Type} [FloatOps F] : Cert.Kernel.defs (F := F) = Cert.KernelIdeal.defs (F := F) :=
  congrArg (Pipeline.defs Cert.KernelIdeal.pcfgs) same_bodies

/-- The kernel as printed: its text is the idealized one's, so the run is the one proved over any float values. -/
theorem frame_kernel : Cert.quiescent_Kernel := fun m ρ _ => by
  have h := (θ_run (Cert.KernelIdeal.defs (F := Bits)) _ _).mono
    (fun r (h : (∀ c w, _) ∧ r.2.sem = fun _ => 0) => (⟨fun c => (h.1 c (0 : Fin 2)).trans (final_arg m ρ c), h.2⟩ :
      (∀ c : Dev Cert.KernelIdeal.nD, r.2.mem (c.tc.loc Cert.KernelIdeal.main_arg0) = m (c.tc.loc Cert.KernelIdeal.main_arg0))
        ∧ r.2.sem = fun _ => 0)) (run_main (F := Bits) m ρ)
  rw [← same_defs] at h
  exact h

theorem frame_ideal : Cert.quiescent_KernelIdeal := fun m ρ _ =>
  (θ_run Cert.KernelIdeal.defs _ _).mono (fun _ h => ⟨fun c => (h.1 c (0 : Fin 2)).trans (final_arg m ρ c), h.2⟩)
    (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the plain program's values where the mask is set. -/
theorem algebraic [Cert.On_told_apart.Facts] : Cert.algebraic_KernelIdeal_ReferenceIdeal_on_told_apart := by
  intro m ρ m' ρ' _ hx
  refine ⟨Plain.top (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨fun i hi => (congrFun (h.1 c (1 : Fin 2)) i).trans (final_eq_top m ρ _ hx c i hi),
        (h.1 c (0 : Fin 2)).trans (final_arg m ρ c)⟩)
      (run_main (F := Ideal) m ρ)
  · exact (θ_run Cert.ReferenceIdeal.defs _ _).mono
      (fun _ h => ⟨fun i _ => congrFun (h 0).1 i, (h 0).2⟩)
      (Cert.ReferenceIdeal.Value.run (F := Ideal) m' ρ')

theorem claim : Cert.Claim :=
  ⟨Cert.Kernel.Gen.facts, Cert.KernelIdeal.Gen.facts, Cert.ReferenceIdeal.Gen.facts, mask_facts,
    frame_kernel, frame_ideal, frame_reference, trivial, @algebraic mask_facts⟩

end Cert.Proof

end
